-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S3x512x4096 : Shape := ⟨3, ![3, 512, 4096]⟩
abbrev S3 : Shape := ⟨1, ![3]⟩
abbrev S4 : Shape := ⟨1, ![4]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S1024x512 : Shape := ⟨2, ![1024, 512]⟩
abbrev S512x512 : Shape := ⟨2, ![512, 512]⟩
abbrev S1x128x4096 : Shape := ⟨3, ![1, 128, 4096]⟩
abbrev S128x4096 : Shape := ⟨2, ![128, 4096]⟩
abbrev S128x512 : Shape := ⟨2, ![128, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x512, .bf16⟩
  | .hbm, ⟨2, _⟩ => ⟨S4096x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .f32⟩
  | .local _ .vmem, ⟨3, _⟩ => ⟨S3x512x4096, .bf16⟩
  | .local _ .vmem, ⟨4, _⟩ => ⟨S3x512x4096, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v31 : BitVec 32 := Scalar.muli v25 c1_i32_23
  let v32 : BitVec 32 := Scalar.addi c0_i32_24 v31
  v32.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_32 : BitVec 32 := 1#32
  let v40 : BitVec 32 := Scalar.muli v14 c1_i32_32
  let v41 : BitVec 32 := Scalar.addi c0_i32_33 v40
  v41.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v56 : BitVec 32 := Scalar.muli v2 c1024_i32
  let v57 : Index := Scalar.indexCast v56
  let c0_41 : Index := 0#32
  ![v57.toNat, 0]
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_80 : BitVec 32 := 1#32
  let v83 : BitVec 32 := Scalar.muli v25 c1_i32_80
  let v84 : BitVec 32 := Scalar.addi c0_i32_81 v83
  v84.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_90 : BitVec 32 := 1#32
  let v93 : BitVec 32 := Scalar.muli v14 c1_i32_90
  let v94 : BitVec 32 := Scalar.addi c0_i32_91 v93
  v94.toNat
def k0_off2 (d0 : Dev nD) (c1_i32_100 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_99 : BitVec 32 := 4#32
  let v105 : BitVec 32 := Scalar.addi v2 c4_i32_99
  let v106 : BitVec 32 := Scalar.subi v105 c1_i32_100
  let c4_i32_101 : BitVec 32 := 4#32
  let c0_i32_102 : BitVec 32 := 0#32
  let v107 : BitVec 1 := Scalar.cmpi .eq c4_i32_101 c0_i32_102
  let c1_i32_103 : BitVec 32 := 1#32
  let v108 : BitVec 32 := Scalar.select v107 c1_i32_103 c4_i32_101
  let v109 : BitVec 32 := Scalar.remsi v106 v108
  let c0_i32_105 : BitVec 32 := 0#32
  let v111 : BitVec 1 := Scalar.cmpi .slt v109 c0_i32_105
  let c0_i32_106 : BitVec 32 := 0#32
  let v112 : BitVec 1 := Scalar.cmpi .slt v108 c0_i32_106
  let v113 : BitVec 1 := Scalar.xori v111 v112
  let c0_i32_104 : BitVec 32 := 0#32
  let v110 : BitVec 1 := Scalar.cmpi .ne v109 c0_i32_104
  let v114 : BitVec 1 := Scalar.andi v113 v110
  let v115 : BitVec 32 := Scalar.addi v109 v108
  let v116 : BitVec 32 := Scalar.select v114 v115 v109
  let c1024_i32_111 : BitVec 32 := 1024#32
  let v122 : BitVec 32 := Scalar.muli v116 c1024_i32_111
  let c0_i32_112 : BitVec 32 := 0#32
  let v123 : BitVec 32 := Scalar.addi v122 c0_i32_112
  let v124 : Index := Scalar.indexCast v123
  let c0_113 : Index := 0#32
  ![v124.toNat, 0]
def k0_off3 (d0 : Dev nD) (c1_i32_117 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : BitVec 32 := Scalar.addi v2 c1_i32_117
  let c4_i32_118 : BitVec 32 := 4#32
  let c0_i32_119 : BitVec 32 := 0#32
  let v129 : BitVec 1 := Scalar.cmpi .eq c4_i32_118 c0_i32_119
  let c1_i32_120 : BitVec 32 := 1#32
  let v130 : BitVec 32 := Scalar.select v129 c1_i32_120 c4_i32_118
  let v131 : BitVec 32 := Scalar.remsi v128 v130
  let c0_i32_122 : BitVec 32 := 0#32
  let v133 : BitVec 1 := Scalar.cmpi .slt v131 c0_i32_122
  let c0_i32_123 : BitVec 32 := 0#32
  let v134 : BitVec 1 := Scalar.cmpi .slt v130 c0_i32_123
  let v135 : BitVec 1 := Scalar.xori v133 v134
  let c0_i32_121 : BitVec 32 := 0#32
  let v132 : BitVec 1 := Scalar.cmpi .ne v131 c0_i32_121
  let v136 : BitVec 1 := Scalar.andi v135 v132
  let v137 : BitVec 32 := Scalar.addi v131 v130
  let v138 : BitVec 32 := Scalar.select v136 v137 v131
  let c1024_i32_128 : BitVec 32 := 1024#32
  let v144 : BitVec 32 := Scalar.muli v138 c1024_i32_128
  let c512_i32_129 : BitVec 32 := 512#32
  let v145 : BitVec 32 := Scalar.addi v144 c512_i32_129
  let v146 : Index := Scalar.indexCast v145
  let c0_130 : Index := 0#32
  ![v146.toNat, 0]
def k0_dev7 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_173 : BitVec 32 := 1#32
  let v176 : BitVec 32 := Scalar.muli v25 c1_i32_173
  let v177 : BitVec 32 := Scalar.addi c0_i32_174 v176
  v177.toNat
def k0_dev8 (d0 : Dev nD) : Nat :=
  let c0_i32_184 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_183 : BitVec 32 := 1#32
  let v186 : BitVec 32 := Scalar.muli v14 c1_i32_183
  let v187 : BitVec 32 := Scalar.addi c0_i32_184 v186
  v187.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_193 : BitVec 32 := 1#32
  let v196 : BitVec 32 := Scalar.muli v25 c1_i32_193
  let v197 : BitVec 32 := Scalar.addi c0_i32_194 v196
  v197.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_202 : BitVec 32 := 1#32
  let v206 : BitVec 32 := Scalar.muli v14 c1_i32_202
  let v207 : BitVec 32 := Scalar.addi c0_i32_203 v206
  v207.toNat
def k0_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_212 : BitVec 32 := 1#32
  let v216 : BitVec 32 := Scalar.muli v25 c1_i32_212
  let v217 : BitVec 32 := Scalar.addi c0_i32_213 v216
  v217.toNat
def k0_dev12 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_221 : BitVec 32 := 1#32
  let v226 : BitVec 32 := Scalar.muli v14 c1_i32_221
  let v227 : BitVec 32 := Scalar.addi c0_i32_222 v226
  v227.toNat
def k0_dev13 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_230 : BitVec 32 := 1#32
  let v236 : BitVec 32 := Scalar.muli v25 c1_i32_230
  let v237 : BitVec 32 := Scalar.addi c0_i32_231 v236
  v237.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_239 : BitVec 32 := 1#32
  let v246 : BitVec 32 := Scalar.muli v14 c1_i32_239
  let v247 : BitVec 32 := Scalar.addi c0_i32_240 v246
  v247.toNat
def k0_off4 (d0 : Dev nD) (c0_i32_320 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_279 : BitVec 32 := 1#32
  let v301 : BitVec 32 := Scalar.addi v2 c1_i32_279
  let c4_i32_280 : BitVec 32 := 4#32
  let c0_i32_281 : BitVec 32 := 0#32
  let v302 : BitVec 1 := Scalar.cmpi .eq c4_i32_280 c0_i32_281
  let c1_i32_282 : BitVec 32 := 1#32
  let v303 : BitVec 32 := Scalar.select v302 c1_i32_282 c4_i32_280
  let v304 : BitVec 32 := Scalar.remsi v301 v303
  let c0_i32_284 : BitVec 32 := 0#32
  let v306 : BitVec 1 := Scalar.cmpi .slt v304 c0_i32_284
  let c0_i32_285 : BitVec 32 := 0#32
  let v307 : BitVec 1 := Scalar.cmpi .slt v303 c0_i32_285
  let v308 : BitVec 1 := Scalar.xori v306 v307
  let c0_i32_283 : BitVec 32 := 0#32
  let v305 : BitVec 1 := Scalar.cmpi .ne v304 c0_i32_283
  let v309 : BitVec 1 := Scalar.andi v308 v305
  let v310 : BitVec 32 := Scalar.addi v304 v303
  let v311 : BitVec 32 := Scalar.select v309 v310 v304
  let c1024_i32_319 : BitVec 32 := 1024#32
  let v345 : BitVec 32 := Scalar.muli v311 c1024_i32_319
  let v346 : BitVec 32 := Scalar.addi v345 c0_i32_320
  let v347 : Index := Scalar.indexCast v346
  let c0_321 : Index := 0#32
  ![v347.toNat, 0]
def k0_off5 (d0 : Dev nD) (c0_i32_350 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_286 : BitVec 32 := 4#32
  let v312 : BitVec 32 := Scalar.addi v2 c4_i32_286
  let c1_i32_287 : BitVec 32 := 1#32
  let v313 : BitVec 32 := Scalar.subi v312 c1_i32_287
  let c4_i32_288 : BitVec 32 := 4#32
  let c0_i32_289 : BitVec 32 := 0#32
  let v314 : BitVec 1 := Scalar.cmpi .eq c4_i32_288 c0_i32_289
  let c1_i32_290 : BitVec 32 := 1#32
  let v315 : BitVec 32 := Scalar.select v314 c1_i32_290 c4_i32_288
  let v316 : BitVec 32 := Scalar.remsi v313 v315
  let c0_i32_292 : BitVec 32 := 0#32
  let v318 : BitVec 1 := Scalar.cmpi .slt v316 c0_i32_292
  let c0_i32_293 : BitVec 32 := 0#32
  let v319 : BitVec 1 := Scalar.cmpi .slt v315 c0_i32_293
  let v320 : BitVec 1 := Scalar.xori v318 v319
  let c0_i32_291 : BitVec 32 := 0#32
  let v317 : BitVec 1 := Scalar.cmpi .ne v316 c0_i32_291
  let v321 : BitVec 1 := Scalar.andi v320 v317
  let v322 : BitVec 32 := Scalar.addi v316 v315
  let v323 : BitVec 32 := Scalar.select v321 v322 v316
  let c1024_i32_348 : BitVec 32 := 1024#32
  let v370 : BitVec 32 := Scalar.muli v323 c1024_i32_348
  let c512_i32_349 : BitVec 32 := 512#32
  let v371 : BitVec 32 := Scalar.addi v370 c512_i32_349
  let v372 : BitVec 32 := Scalar.addi v371 c0_i32_350
  let v373 : Index := Scalar.indexCast v372
  let c0_351 : Index := 0#32
  ![v373.toNat, 0]
abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.KernelIdeal.Ring.lean ====
/-
The ring of four devices and what the kernel's body names on it: the neighbours its words address, the rows its
stores start at, its semaphores, and the windows its twelve transfers move.

A transfer of a device is named by a direction and a number. Direction `false` sends towards the next device and
lands in the first landing buffer; `true` sends towards the previous one and lands in the second. Number 0 is the
first hop (half of the device's rows of `x`), 1 the second hop (the half received first), and 2, 3, 4, 5 are the
four quarters of the third hop.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open Idealize.SL.Sem

/-! ## Neighbours -/

set_option backward.proofsInPublic true in
/-- The neighbour a direction sends to: the next device for `false`, the previous one for `true`. -/
def tgt (d : Bool) (c : Dev nD) : Dev nD := ⟨(c.val + if d then 3 else 1) % 4, Nat.mod_lt _ (by decide)⟩

/-- Going one way and then the other leads back. -/
theorem tgt_back (d : Bool) (c : Dev nD) : tgt (!d) (tgt d c) = c := by revert d c; decide
/-- The same, the other way first. -/
theorem tgt_forth (d : Bool) (c : Dev nD) : tgt d (tgt (!d) c) = c := by revert d c; decide

/-- Sending in one direction permutes the devices. -/
def rot (d : Bool) : Dev nD ≃ Dev nD := ⟨tgt d, tgt (!d), tgt_back d, tgt_forth d⟩

/-- The device whose rows a device holds in slot `h` of the landing buffer of direction `d`: `h + 1` places back. -/
def orig (d : Bool) (h : ℕ) (c : Dev nD) : Dev nD := (tgt (!d))^[h + 1] c

/-- What lands one slot further on the receiver is what the sender holds one slot before. -/
theorem orig_succ (d : Bool) (h : ℕ) (c : Dev nD) : orig d (h + 1) (tgt d c) = orig d h c := by
  unfold orig; rw [Function.iterate_succ_apply, tgt_back]
/-- What lands in the first slot of the receiver is the sender's own. -/
theorem orig_zero (d : Bool) (c : Dev nD) : orig d 0 (tgt d c) = c := tgt_back d c

/-- The first signal's device word: the previous device. -/
theorem dev1_eq (c : Dev nD) : (⟨k0_dev1 c, k0_dev1_lt c⟩ : Dev nD) = tgt true c := by revert c; decide +kernel
/-- The second signal's device word: the next device. -/
theorem dev2_eq (c : Dev nD) : (⟨k0_dev2 c, k0_dev2_lt c⟩ : Dev nD) = tgt false c := by revert c; decide +kernel
/-- The device word of a transfer to the next device. -/
theorem dev3_eq (c : Dev nD) : (⟨k0_dev3 c, k0_dev3_lt c⟩ : Dev nD) = tgt false c := by revert c; decide +kernel
/-- The same of the next word, to the next device. -/
theorem dev5_eq (c : Dev nD) : (⟨k0_dev5 c, k0_dev5_lt c⟩ : Dev nD) = tgt false c := by revert c; decide +kernel
/-- The same of the next word, to the next device. -/
theorem dev7_eq (c : Dev nD) : (⟨k0_dev7 c, k0_dev7_lt c⟩ : Dev nD) = tgt false c := by revert c; decide +kernel
/-- The same of the next word, to the next device. -/
theorem dev9_eq (c : Dev nD) : (⟨k0_dev9 c, k0_dev9_lt c⟩ : Dev nD) = tgt false c := by revert c; decide +kernel
/-- The same of the next word, to the next device. -/
theorem dev11_eq (c : Dev nD) : (⟨k0_dev11 c, k0_dev11_lt c⟩ : Dev nD) = tgt false c := by revert c; decide +kernel
/-- The same of the next word, to the next device. -/
theorem dev13_eq (c : Dev nD) : (⟨k0_dev13 c, k0_dev13_lt c⟩ : Dev nD) = tgt false c := by revert c; decide +kernel
/-- The device word of a transfer to the previous device. -/
theorem dev4_eq (c : Dev nD) : (⟨k0_dev4 c, k0_dev4_lt c⟩ : Dev nD) = tgt true c := by revert c; decide +kernel
/-- The same of the next word, to the previous device. -/
theorem dev6_eq (c : Dev nD) : (⟨k0_dev6 c, k0_dev6_lt c⟩ : Dev nD) = tgt true c := by revert c; decide +kernel
/-- The same of the next word, to the previous device. -/
theorem dev8_eq (c : Dev nD) : (⟨k0_dev8 c, k0_dev8_lt c⟩ : Dev nD) = tgt true c := by revert c; decide +kernel
/-- The same of the next word, to the previous device. -/
theorem dev10_eq (c : Dev nD) : (⟨k0_dev10 c, k0_dev10_lt c⟩ : Dev nD) = tgt true c := by revert c; decide +kernel
/-- The same of the next word, to the previous device. -/
theorem dev12_eq (c : Dev nD) : (⟨k0_dev12 c, k0_dev12_lt c⟩ : Dev nD) = tgt true c := by revert c; decide +kernel
/-- The same of the next word, to the previous device. -/
theorem dev14_eq (c : Dev nD) : (⟨k0_dev14 c, k0_dev14_lt c⟩ : Dev nD) = tgt true c := by revert c; decide +kernel

/-! ## The rows the stores start at -/

/-- The row of the result that holds what came in direction `d`, slot `h`, from local row `t` of the half on:
    the originating device's rows, the second half for direction `true`. -/
def row (d : Bool) (h t : ℕ) (c : Dev nD) : ℕ := 1024 * (orig d h c).val + (if d then 512 else 0) + t

/-- A device's own rows start at its own block. -/
theorem off1_eq (c : Dev nD) : k0_off1 c = ![1024 * c.val, 0] := by revert c; decide +kernel
/-- The first two slots' stores, direction `false`, start at the rows the slots came from. -/
theorem off2_eq (c : Dev nD) (r : Fin 2) : k0_off2 c (BitVec.ofNat 32 (1 + r.val)) = ![row false r.val 0 c, 0] := by
  revert c r; decide +kernel
/-- The same for direction `true`. -/
theorem off3_eq (c : Dev nD) (r : Fin 2) : k0_off3 c (BitVec.ofNat 32 (1 + r.val)) = ![row true r.val 0 c, 0] := by
  revert c r; decide +kernel
/-- The last slot's quarters' stores, direction `false`, start at the rows the quarters came from. -/
theorem off4_eq (c : Dev nD) (r : Fin 4) : k0_off4 c (BitVec.ofNat 32 (128 * r.val)) = ![row false 2 (128 * r.val) c, 0] := by
  revert c r; decide +kernel
/-- The same for direction `true`. -/
theorem off5_eq (c : Dev nD) (r : Fin 4) : k0_off5 c (BitVec.ofNat 32 (128 * r.val)) = ![row true 2 (128 * r.val) c, 0] := by
  revert c r; decide +kernel

/-! ## Semaphores and cells -/

/-- A transfer of a device: its direction and its number. -/
abbrev Xf : Type := Bool × Fin 6

/-- The semaphore a transfer completes on: at its sender for `false`, at its receiver for `true`. -/
def xs (x : Xf) (b : Bool) : DmaSem sig := match x.1, b with
  | false, false => (![3, 4, 15, 16, 17, 18] : Fin 6 → Fin 31) x.2
  | false, true => (![6, 7, 19, 20, 21, 22] : Fin 6 → Fin 31) x.2
  | true, false => (![9, 10, 23, 24, 25, 26] : Fin 6 → Fin 31) x.2
  | true, true => (![12, 13, 27, 28, 29, 30] : Fin 6 → Fin 31) x.2

/-- The transfer, and its end, that completes on a semaphore. -/
def xOf (s : DmaSem sig) : Option (Xf × Bool) :=
  ([false, true].flatMap fun d => (List.finRange 6).flatMap fun j => [((d, j), false), ((d, j), true)]).find? fun p => xs p.1 p.2 = s

set_option maxRecDepth 4000 in
/-- The semaphore of a transfer's end gives back the transfer and the end. -/
theorem xOf_xs (x : Xf) (b : Bool) : xOf (xs x b) = some (x, b) := by revert x b; decide +kernel

/-- The runtime's barrier semaphore of the kernel's collective id. -/
abbrev barS : Sem sig := (SemArray.scalar (sig.barrier 0 rfl) : Sems sig S_).sem

/-- The cells of the protocol on one device: the barrier's, and both ends' of every transfer. -/
abbrev CI : Type := Unit ⊕ (Xf × Bool)
/-- The semaphore of a cell. -/
abbrev csem : CI → SemLoc sig
  | .inl _ => .reg barS
  | .inr p => .dma (xs p.1 p.2)
/-- The kernel's own (scoped) semaphores among them. -/
abbrev osem (p : Xf × Bool) : SemLoc sig := .dma (xs p.1 p.2)

/-- The barrier's cell on a device. -/
abbrev barCell (c : Dev nD) : GSem nD τ sig := ((c : Thread nD τ), .reg barS)
/-- The cell of one end of a transfer on a device: `false` where it is sent, `true` where it lands. -/
abbrev xCell (c : Dev nD) (x : Xf) (b : Bool) : GSem nD τ sig := ((c : Thread nD τ), .dma (xs x b))
/-- A device's cell by its name. -/
abbrev kcell (ck : Dev nD × CI) : GSem nD τ sig := ((ck.1 : Thread nD τ), csem ck.2)

/-- Different ends of transfers complete on different semaphores. -/
theorem xs_inj {x x' : Xf} {b b' : Bool} (h : xs x b = xs x' b') : (x, b) = (x', b') :=
  Option.some.inj ((xOf_xs x b).symm.trans ((congrArg xOf h).trans (xOf_xs x' b')))

/-- Different cells of a device have different semaphores. -/
theorem csem_inj : Function.Injective csem := by
  rintro (_ | ⟨x, b⟩) (_ | ⟨x', b'⟩) h
  · rfl
  · exact absurd h (fun h => by cases h)
  · exact absurd h (fun h => by cases h)
  · exact congrArg Sum.inr (xs_inj (SemLoc.dma.inj h))

/-- Different cells are different semaphores of the mesh. -/
theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_inj (congrArg Prod.snd h)
  subst h2; rfl

/-- The transfers' semaphores are the kernel's own, different, and none of the pipeline's. -/
theorem ownSemFacts : Pipeline.OwnSemFacts cfg0.spec osem where
  isScoped := by decide
  inj := fun p p' h => xs_inj (SemLoc.dma.inj h)
  disj := by decide +kernel

/-! ## Windows -/

/-- The staged block of `x`. -/
abbrev xM : Memref sig .tc .vmem S1024x4096 .bf16 := Memref.whole cc0_stg0_0
/-- The staged block of `w_mat`. -/
abbrev wM : Memref sig .tc .vmem S4096x512 .bf16 := Memref.whole cc0_stg1_0
/-- The result's staging buffer. -/
abbrev oM : Memref sig .tc .vmem S4096x512 .f32 := Memref.whole cc0_stg2_0
/-- The landing buffer of a direction. -/
abbrev cM (d : Bool) : Memref sig .tc .vmem S3x512x4096 .bf16 := match d with
  | false => Memref.whole cc0_scratch0
  | true => Memref.whole cc0_scratch1

/-- A slot lies in the landing buffer. -/
theorem inb_big (h : Fin 3) : ∀ a, (![h.val, 0, 0] : Fin 3 → Nat) a + S1x512x4096.size a ≤ S3x512x4096.size a := by revert h; decide
/-- A quarter of a slot lies in the landing buffer. -/
theorem inb_small (h : Fin 3) (s : Fin 4) : ∀ a, (![h.val, 128 * s.val, 0] : Fin 3 → Nat) a + S1x128x4096.size a ≤ S3x512x4096.size a := by
  revert h s; decide
/-- A half lies in the staged block. -/
theorem inb_half (d : Bool) : ∀ a, (![if d then 512 else 0, 0] : Fin 2 → Nat) a + S512x4096.size a ≤ S1024x4096.size a := by revert d; decide

/-- Slot `h` of a landing buffer. -/
abbrev bigR (h : Fin 3) : Rect S3x512x4096 := Rect.unit (s := S3x512x4096) ![h.val, 0, 0] S1x512x4096.size (inb_big h)
/-- Quarter `s` of slot `h`. -/
abbrev smallR (h : Fin 3) (s : Fin 4) : Rect S3x512x4096 := Rect.unit (s := S3x512x4096) ![h.val, 128 * s.val, 0] S1x128x4096.size (inb_small h s)
/-- The half of a device's rows that direction `d` sends. -/
abbrev halfR (d : Bool) : Rect S1024x4096 := Rect.unit (s := S1024x4096) ![if d then 512 else 0, 0] S512x4096.size (inb_half d)

/-- Slot `h` of a landing buffer as a memory of its own. -/
abbrev bigM (d : Bool) (h : Fin 3) : Memref sig .tc .vmem S512x4096 .bf16 :=
  ((cM d).slice (bigR h) (fun _ => rfl)).squeeze S512x4096 squeezes_S1x512x4096_S512x4096
/-- Quarter `s` of slot `h` as a memory of its own. -/
abbrev smallM (d : Bool) (h : Fin 3) (s : Fin 4) : Memref sig .tc .vmem S128x4096 .bf16 :=
  ((cM d).slice (smallR h s) (fun _ => rfl)).squeeze S128x4096 squeezes_S1x128x4096_S128x4096
/-- The half that direction `d` sends, as a memory of its own. -/
abbrev halfM (d : Bool) : Memref sig .tc .vmem S512x4096 .bf16 := xM.slice (halfR d) (fun _ => rfl)

/-- What a transfer credits: a half's credit for the first two hops, a quarter of it for the third hop's four. -/
def amt (j : Fin 6) : ℕ := if j.val < 2 then (bigM false 0).view.dmaCredit else (smallM false 0 0).view.dmaCredit

/-- A transfer credits something. -/
theorem amt_pos (j : Fin 6) : 0 < amt j := by
  unfold amt; split <;> exact View.dmaCredit_pos _ (by decide)

/-- A slot's transfer credits the first hops' amount. -/
theorem credit_big (d : Bool) (h : Fin 3) : (bigM d h).view.dmaCredit = amt 0 := by cases d <;> rfl
/-- So does a half's. -/
theorem credit_half (d : Bool) : (halfM d).view.dmaCredit = amt 0 := by cases d <;> rfl
/-- A quarter's transfer credits the third hop's amount. -/
theorem credit_small (d : Bool) (h : Fin 3) (s : Fin 4) : (smallM d h s).view.dmaCredit = amt 2 := by cases d <;> rfl

end Cert.KernelIdeal.Ring

end
-- ==== Proof.KernelIdeal.Contents.lean ====
/-
What the buffers hold while the kernel runs, and how their ownership is cut into the transfers' windows.
-/
module

public import proofs.«01_k».proof.Proof.KernelIdeal.Ring

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

/-- The protocol's ghost algebra: the pipeline's part and the rounds'. -/
abbrev UB : Type := URounds (GSem nD τ sig) Bool
/-- The ghost algebra whole. -/
abbrev UU : Type := UR sig nD τ × UB

local notation "𝕄" => MT nD τ sig Unit (Elt F) ℕ UU ℕ

/-- The pipeline's part of it. -/
abbrev EP : Emb (UR sig nD τ) (MT nD τ sig Unit (Elt F) ℕ UU ℕ) := embL
/-- The rounds' part of it. -/
abbrev ER : Emb UB (MT nD τ sig Unit (Elt F) ℕ UU ℕ) := embR

variable (m : (ℓ : Loc nD τ sig) → Buf (Elt F) ℓ)

/-! ## Contents -/

/-- A device's block of `x`, as the pipeline stages it. -/
def xstg (c : Dev nD) : (cc0_stg0_0 : Ref sig .tc).ty.Contents (Elt F) :=
  (win0_0.blk (0 : Fin 1)).view.read (Elt F) (m ((c : Thread nD τ).loc main_arg0))
/-- A device's block of `w_mat`, as the pipeline stages it. -/
def wstg (c : Dev nD) : (cc0_stg1_0 : Ref sig .tc).ty.Contents (Elt F) :=
  (win0_1.blk (0 : Fin 1)).view.read (Elt F) (m ((c : Thread nD τ).loc main_arg1))

/-- An index of a landing buffer without its slot. -/
def tail (i : S3x512x4096.Idx) : S512x4096.Idx := fun a => i a.succ

/-- What the landing buffer of direction `d` comes to hold on device `c`: in slot `h` the half `d` of the rows of the
    device `h + 1` places back. -/
def contV (d : Bool) (c : Dev nD) : S3x512x4096.Idx → Elt F .bf16 :=
  fun i => xstg m (orig d (i 0).val c) ((halfR d).emb (tail i))

/-- The same as contents of the buffer. -/
def cont (d : Bool) (c : Dev nD) : Buf (Elt F) ((cM d).view.loc (c : Thread nD τ)) :=
  match d with
  | false => contV m false c
  | true => contV m true c

omit [FloatOps F] in
/-- One slot further on the receiver is the same row as on the sender. -/
theorem contV_succ (d : Bool) (c : Dev nD) {i i' : S3x512x4096.Idx} (h0 : (i' 0).val = (i 0).val + 1) (ht : tail i' = tail i) :
    contV m d (tgt d c) i' = contV m d c i := by
  unfold contV; rw [h0, orig_succ, ht]

omit [FloatOps F] in
/-- The receiver's first slot is the sender's own half. -/
theorem contV_zero (d : Bool) (c : Dev nD) {i : S3x512x4096.Idx} (h0 : (i 0).val = 0) {x : S512x4096.Idx} (ht : tail i = x) :
    contV m d (tgt d c) i = xstg m c ((halfR d).emb x) := by
  unfold contV; rw [h0, orig_zero, ht]

/-! ## Where the windows lie -/

/-- A slot's window has the slot for its leading coordinate. -/
theorem big_fst (h : Fin 3) (x : (bigR h).shape.Idx) : ((bigR h).emb x 0).val = h.val := by
  rw [Rect.emb_apply]
  have h1 : (x 0).val < 1 := (x 0).isLt
  show h.val + 1 * (x 0).val = h.val
  omega
/-- So has a quarter's. -/
theorem small_fst (h : Fin 3) (s : Fin 4) (x : (smallR h s).shape.Idx) : ((smallR h s).emb x 0).val = h.val := by
  rw [Rect.emb_apply]
  have h1 : (x 0).val < 1 := (x 0).isLt
  show h.val + 1 * (x 0).val = h.val
  omega
/-- The windows of two slots are the same but for the slot. -/
theorem big_tail (h h' : Fin 3) (x : S1x512x4096.Idx) : tail ((bigR h).emb x) = tail ((bigR h').emb x) := by
  funext a; fin_cases a <;> rfl
/-- So are those of the same quarter of two slots. -/
theorem small_tail (h h' : Fin 3) (s : Fin 4) (x : S1x128x4096.Idx) : tail ((smallR h s).emb x) = tail ((smallR h' s).emb x) := by
  funext a; fin_cases a <;> rfl
/-- A slot's window, its leading axis dropped, is the half itself. -/
theorem big_tail_squeeze (h : Fin 3) (x : S512x4096.Idx) (hn : S512x4096.numel = S1x512x4096.numel) :
    tail ((bigR h).emb (Shape.reshapeEquiv hn x)) = x := by
  rw [Shape.reshapeEquiv_cons_one]
  funext a
  apply Fin.ext
  fin_cases a
  · show 0 + 1 * (x 0).val = (x 0).val; omega
  · show 0 + 1 * (x 1).val = (x 1).val; omega

omit [FloatOps F] in
/-- A copied element, read back. -/
theorem copy_apply {s : Shape} (src dst : Memref sig .tc .vmem s .bf16) (fs : src.view.ty.Contents (Elt F)) (fd : dst.view.ty.Contents (Elt F)) (x : s.Idx) :
    dst.view.write (Elt F) fd (src.view.read (Elt F) fs) Finset.univ (dst.view.emb x)
      = _root_.cast (congrArg (Elt F) dst.view.elt_eq.symm) (_root_.cast (congrArg (Elt F) src.view.elt_eq) (fs (src.view.emb x))) := by
  rw [View.write_emb_of_mem _ _ (Finset.mem_univ x), View.read_apply]

/-! ## Windows owned -/

/-- A rectangle of the landing buffer of direction `d` on device `c`, holding `f` there. -/
abbrev cPts (d : Bool) (c : Dev nD) (r : Rect S3x512x4096) (q : PosShare TreeShare) (f : Buf (Elt F) ((cM d).view.loc (c : Thread nD τ))) : sProp 𝕄 :=
  (cM d).view.loc (c : Thread nD τ) ↦[((cM d).view.slice r).set]{q} f
/-- A rectangle of a device's staged block of `x`. -/
abbrev xPts (c : Dev nD) (r : Rect S1024x4096) (q : PosShare TreeShare) : sProp 𝕄 :=
  (xM).view.loc (c : Thread nD τ) ↦[((xM).view.slice r).set]{q} xstg m c

/-- The window a transfer lands in. -/
abbrev landR (j : Fin 6) : Rect S3x512x4096 := match j with
  | 0 => bigR 0
  | 1 => bigR 1
  | 2 => smallR 2 0
  | 3 => smallR 2 1
  | 4 => smallR 2 2
  | 5 => smallR 2 3

/-- An index is in a slot's window where its leading coordinate is the slot. -/
theorem mem_big (h : Fin 3) (i : S3x512x4096.Idx) : i ∈ (bigR h).set ↔ (i 0).val = h.val := by
  rw [Rect.mem_set_unit]
  have h0 : (i 0).val < 3 := (i 0).isLt
  have h1 : (i 1).val < 512 := (i 1).isLt
  have h2 : (i 2).val < 4096 := (i 2).isLt
  constructor
  · intro H
    have := H 0
    have a1 : h.val ≤ (i 0).val := this.1
    have a2 : (i 0).val < h.val + 1 := this.2
    omega
  · intro H a
    fin_cases a
    · exact ⟨(show h.val ≤ (i 0).val by omega), (show (i 0).val < h.val + 1 by omega)⟩
    · exact ⟨(show 0 ≤ (i 1).val by omega), (show (i 1).val < 0 + 512 by omega)⟩
    · exact ⟨(show 0 ≤ (i 2).val by omega), (show (i 2).val < 0 + 4096 by omega)⟩

/-- An index is in a quarter's window where its leading coordinate is the slot and its row in the quarter. -/
theorem mem_small (h : Fin 3) (s : Fin 4) (i : S3x512x4096.Idx) :
    i ∈ (smallR h s).set ↔ (i 0).val = h.val ∧ 128 * s.val ≤ (i 1).val ∧ (i 1).val < 128 * s.val + 128 := by
  rw [Rect.mem_set_unit]
  have h2 : (i 2).val < 4096 := (i 2).isLt
  constructor
  · intro H
    have a1 : h.val ≤ (i 0).val := (H 0).1
    have a2 : (i 0).val < h.val + 1 := (H 0).2
    exact ⟨by omega, (H 1).1, (H 1).2⟩
  · rintro ⟨H, H1, H2⟩ a
    fin_cases a
    · exact ⟨(show h.val ≤ (i 0).val by omega), (show (i 0).val < h.val + 1 by omega)⟩
    · exact ⟨H1, H2⟩
    · exact ⟨(show 0 ≤ (i 2).val by omega), (show (i 2).val < 0 + 4096 by omega)⟩

/-- An index is in a half where its row is. -/
theorem mem_half (d : Bool) (i : S1024x4096.Idx) : i ∈ (halfR d).set ↔ (if d then 512 else 0) ≤ (i 0).val ∧ (i 0).val < (if d then 512 else 0) + 512 := by
  rw [Rect.mem_set_unit]
  have h1 : (i 1).val < 4096 := (i 1).isLt
  constructor
  · intro H; exact ⟨(H 0).1, (H 0).2⟩
  · rintro ⟨H, H1⟩ a
    fin_cases a
    · exact ⟨H, H1⟩
    · exact ⟨(show 0 ≤ (i 1).val by omega), (show (i 1).val < 0 + 4096 by omega)⟩

/-- Which landing window an index lies in. -/
theorem mem_land (j : Fin 6) (i : S3x512x4096.Idx) :
    i ∈ (landR j).set ↔ (if (i 0).val < 2 then (i 0).val else 2 + (i 1).val / 128) = j.val := by
  have h0 : (i 0).val < 3 := (i 0).isLt
  fin_cases j
  · show i ∈ (bigR 0).set ↔ _ = 0
    rw [mem_big]; split <;> simp <;> omega
  · show i ∈ (bigR 1).set ↔ _ = 1
    rw [mem_big]; split <;> simp <;> omega
  · show i ∈ (smallR 2 0).set ↔ _ = 2
    rw [mem_small]; split <;> simp <;> omega
  · show i ∈ (smallR 2 1).set ↔ _ = 3
    rw [mem_small]; split <;> simp <;> omega
  · show i ∈ (smallR 2 2).set ↔ _ = 4
    rw [mem_small]; split <;> simp <;> omega
  · show i ∈ (smallR 2 3).set ↔ _ = 5
    rw [mem_small]; split <;> simp <;> omega

/-- The elements of a window of a landing buffer. -/
theorem cset (d : Bool) (r : Rect S3x512x4096) : ((cM d).view.slice r).set = r.set.map (cM d).view.emb := View.set_slice _ _
/-- The elements of a whole landing buffer. -/
theorem cset_univ (d : Bool) : (Finset.univ : Finset S3x512x4096.Idx).map (cM d).view.emb = Finset.univ := by
  cases d <;> exact View.set_whole _

/-- The image of a union is the union of the images. -/
theorem map_biUnion' {A B T : Type} [DecidableEq A] [DecidableEq B] (e : A ↪ B) (S : Finset T) (K : T → Finset A) :
    S.biUnion (fun t => (K t).map e) = (S.biUnion K).map e := by
  ext b; simp only [Finset.mem_biUnion, Finset.mem_map]
  constructor
  · rintro ⟨t, ht, a, ha, rfl⟩; exact ⟨a, ⟨t, ht, ha⟩, rfl⟩
  · rintro ⟨a, ⟨t, ht, ha⟩, rfl⟩; exact ⟨t, ht, a, ha, rfl⟩

omit [FloatOps F] in
/-- A whole landing buffer is its six landing windows. -/
theorem land_split (d : Bool) (c : Dev nD) (q : PosShare TreeShare) (f : Buf (Elt F) ((cM d).view.loc (c : Thread nD τ))) :
    ((cM d).view.loc (c : Thread nD τ) ↦{q} f : sProp 𝕄) = bigSep Finset.univ fun j : Fin 6 => cPts d c (landR j) q f := by
  rw [show (fun j : Fin 6 => cPts d c (landR j) q f)
      = fun j : Fin 6 => ((cM d).view.loc (c : Thread nD τ) ↦[((landR j).set.map (cM d).view.emb)]{q} f : sProp 𝕄) from
    funext fun j => by rw [← cset]]
  refine Eq.trans ?_ (pointsTo_biUnion (ℓ := (cM d).view.loc (c : Thread nD τ)) (q := q) (f := f) Finset.univ (fun j => (landR j).set.map (cM d).view.emb) ?_)
  · refine congrArg (fun I => ((cM d).view.loc (c : Thread nD τ) ↦[I]{q} f : sProp 𝕄)) ?_
    rw [map_biUnion', ← cset_univ d]
    refine congrArg (Finset.map (cM d).view.emb) ?_
    ext i; simp only [Finset.mem_univ, Finset.mem_biUnion, true_and, true_iff]
    have h0 : (i 0).val < 3 := (i 0).isLt
    have h1 : (i 1).val < 512 := (i 1).isLt
    exact ⟨⟨if (i 0).val < 2 then (i 0).val else 2 + (i 1).val / 128, by split <;> omega⟩, (mem_land _ i).mpr rfl⟩
  · intro j _ j' _ hne
    rw [Finset.disjoint_map, Finset.disjoint_left]
    intro i hi hi'
    exact hne (Fin.ext (((mem_land j i).mp hi).symm.trans ((mem_land j' i).mp hi')))

omit [FloatOps F] in
/-- The second slot is its four quarters. -/
theorem quarter_split (d : Bool) (c : Dev nD) (q : PosShare TreeShare) (f : Buf (Elt F) ((cM d).view.loc (c : Thread nD τ))) :
    cPts d c (bigR 1) q f = bigSep Finset.univ fun s : Fin 4 => cPts d c (smallR 1 s) q f := by
  rw [show (fun s : Fin 4 => cPts d c (smallR 1 s) q f)
      = fun s : Fin 4 => ((cM d).view.loc (c : Thread nD τ) ↦[((smallR 1 s).set.map (cM d).view.emb)]{q} f : sProp 𝕄) from
    funext fun j => by rw [← cset]]
  refine Eq.trans ?_ (pointsTo_biUnion (ℓ := (cM d).view.loc (c : Thread nD τ)) (q := q) (f := f) Finset.univ (fun s => (smallR 1 s).set.map (cM d).view.emb) ?_)
  · refine congrArg (fun I => ((cM d).view.loc (c : Thread nD τ) ↦[I]{q} f : sProp 𝕄)) ?_
    rw [map_biUnion', cset]
    refine congrArg (Finset.map (cM d).view.emb) ?_
    ext i; simp only [Finset.mem_univ, Finset.mem_biUnion, true_and, mem_big, mem_small]
    have h1 : (i 1).val < 512 := (i 1).isLt
    constructor
    · intro h; exact ⟨⟨(i 1).val / 128, by omega⟩, h, (show 128 * ((i 1).val / 128) ≤ _ by omega), (show _ < 128 * ((i 1).val / 128) + 128 by omega)⟩
    · rintro ⟨_, h, _⟩; exact h
  · intro j _ j' _ hne
    rw [Finset.disjoint_map, Finset.disjoint_left]
    intro i hi hi'
    have a := (mem_small 1 j i).mp hi
    have b := (mem_small 1 j' i).mp hi'
    exact hne (Fin.ext (by omega))

omit [FloatOps F] in
/-- A staged block of `x` is its two halves. -/
theorem half_split (c : Dev nD) (q : PosShare TreeShare) :
    ((xM).view.loc (c : Thread nD τ) ↦{q} xstg m c : sProp 𝕄) = bigSep Finset.univ fun d : Bool => xPts m c (halfR d) q := by
  rw [show (fun d : Bool => xPts m c (halfR d) q)
      = fun d : Bool => ((xM).view.loc (c : Thread nD τ) ↦[(halfR d).set]{q} xstg m c : sProp 𝕄) from
    funext fun d => congrArg (fun I => ((xM).view.loc (c : Thread nD τ) ↦[I]{q} xstg m c : sProp 𝕄)) (View.set_slice_whole cc0_stg0_0 (halfR d))]
  refine Eq.trans ?_ (pointsTo_biUnion (ℓ := (xM).view.loc (c : Thread nD τ)) (q := q) (f := xstg m c) Finset.univ (fun d => (halfR d).set) ?_)
  · refine congrArg (fun I => ((xM).view.loc (c : Thread nD τ) ↦[I]{q} xstg m c : sProp 𝕄)) ?_
    symm
    apply Finset.eq_univ_of_forall
    intro i
    have h0 : (i 0).val < 1024 := (i 0).isLt
    rw [Finset.mem_biUnion]
    by_cases h : (i 0).val < 512
    · exact ⟨false, Finset.mem_univ _, (mem_half false i).mpr ⟨Nat.zero_le _, (show _ < 0 + 512 by omega)⟩⟩
    · exact ⟨true, Finset.mem_univ _, (mem_half true i).mpr ⟨(show 512 ≤ _ by omega), (show _ < 512 + 512 by omega)⟩⟩
  · intro d _ d' _ hne
    rw [Finset.disjoint_left]
    intro i hi hi'
    have a := (mem_half d i).mp hi
    have b := (mem_half d' i).mp hi'
    cases d <;> cases d' <;> first | exact hne rfl | (simp at a b; omega)

/-! ## What the transfers leave -/

omit [FloatOps F] in
/-- The first hop leaves the sender's half in the receiver's first slot. -/
theorem land0 (d : Bool) (c : Dev nD) (fd : Buf (Elt F) ((bigM d 0).view.loc (tgt d c : Thread nD τ))) :
    ((bigM d 0).view.loc (tgt d c : Thread nD τ) ↦[(bigM d 0).view.set]{fullShare}
        (bigM d 0).view.write (Elt F) fd ((halfM d).view.read (Elt F) (xstg m c)) Finset.univ : sProp 𝕄)
      = cPts d (tgt d c) (bigR 0) fullShare (cont m d (tgt d c)) := by
  unfold cPts
  rw [← (show (bigM d 0).view.set = ((cM d).view.slice (bigR 0)).set from View.set_reshape _ _)]
  refine pointsTo_congr fun i hi => ?_
  obtain ⟨x, -, rfl⟩ := Finset.mem_map.mp hi
  rw [copy_apply (halfM d) (bigM d 0) (xstg m c) fd x]
  cases d
  · exact (contV_zero m false c (i := (bigM false 0).view.emb x) (big_fst 0 _) (big_tail_squeeze 0 x _)).symm
  · exact (contV_zero m true c (i := (bigM true 0).view.emb x) (big_fst 0 _) (big_tail_squeeze 0 x _)).symm

omit [FloatOps F] in
/-- The second hop leaves the sender's first slot in the receiver's second. -/
theorem land1 (d : Bool) (c : Dev nD) (fd : Buf (Elt F) ((bigM d 1).view.loc (tgt d c : Thread nD τ))) :
    ((bigM d 1).view.loc (tgt d c : Thread nD τ) ↦[(bigM d 1).view.set]{fullShare}
        (bigM d 1).view.write (Elt F) fd ((bigM d 0).view.read (Elt F) (cont m d c)) Finset.univ : sProp 𝕄)
      = cPts d (tgt d c) (bigR 1) fullShare (cont m d (tgt d c)) := by
  unfold cPts
  rw [← (show (bigM d 1).view.set = ((cM d).view.slice (bigR 1)).set from View.set_reshape _ _)]
  refine pointsTo_congr fun i hi => ?_
  obtain ⟨x, -, rfl⟩ := Finset.mem_map.mp hi
  rw [copy_apply (bigM d 0) (bigM d 1) (cont m d c) fd x]
  cases d
  · exact (contV_succ m false c (i := (bigM false 0).view.emb x) (i' := (bigM false 1).view.emb x)
      ((big_fst 1 _).trans (congrArg (· + 1) (big_fst 0 _)).symm) (big_tail 1 0 _)).symm
  · exact (contV_succ m true c (i := (bigM true 0).view.emb x) (i' := (bigM true 1).view.emb x)
      ((big_fst 1 _).trans (congrArg (· + 1) (big_fst 0 _)).symm) (big_tail 1 0 _)).symm

omit [FloatOps F] in
/-- The third hop's quarters leave those of the sender's second slot in the receiver's third. -/
theorem land2 (d : Bool) (s : Fin 4) (c : Dev nD) (fd : Buf (Elt F) ((smallM d 2 s).view.loc (tgt d c : Thread nD τ))) :
    ((smallM d 2 s).view.loc (tgt d c : Thread nD τ) ↦[(smallM d 2 s).view.set]{fullShare}
        (smallM d 2 s).view.write (Elt F) fd ((smallM d 1 s).view.read (Elt F) (cont m d c)) Finset.univ : sProp 𝕄)
      = cPts d (tgt d c) (smallR 2 s) fullShare (cont m d (tgt d c)) := by
  unfold cPts
  rw [← (show (smallM d 2 s).view.set = ((cM d).view.slice (smallR 2 s)).set from View.set_reshape _ _)]
  refine pointsTo_congr fun i hi => ?_
  obtain ⟨x, -, rfl⟩ := Finset.mem_map.mp hi
  rw [copy_apply (smallM d 1 s) (smallM d 2 s) (cont m d c) fd x]
  cases d
  · exact (contV_succ m false c (i := (smallM false 1 s).view.emb x) (i' := (smallM false 2 s).view.emb x)
      ((small_fst 2 s _).trans (congrArg (· + 1) (small_fst 1 s _)).symm) (small_tail 2 1 s _)).symm
  · exact (contV_succ m true c (i := (smallM true 1 s).view.emb x) (i' := (smallM true 2 s).view.emb x)
      ((small_fst 2 s _).trans (congrArg (· + 1) (small_fst 1 s _)).symm) (small_tail 2 1 s _)).symm

end Cert.KernelIdeal.Ring

end
-- ==== Proof.KernelIdeal.Schedule.lean ====
/-
The protocol: which duties each cell has, what each hands over and with what contents, what a device owes while it
runs, and that every wait lies below what is still owed.
-/
module

public import proofs.«01_k».proof.Proof.KernelIdeal.Contents

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the duties hand over -/

/-- What the neighbour `tgt d c` hands device `c` when it signals `c`'s barrier: its landing buffer of direction `d`. -/
def barPay (d : Bool) (c : Dev nD) : sProp 𝕄 := iprop(∃ f, (cM d).view.loc (tgt d c : Thread nD τ) ↦{fullShare} f)

/-- What a transfer lends while it reads: half the share of its source window. -/
def sendPay (x : Xf) (c : Dev nD) : sProp 𝕄 := match x.2 with
  | 0 => xPts m c (halfR x.1) fullShare.left
  | 1 => cPts x.1 c (bigR 0) fullShare.left (cont m x.1 c)
  | 2 => cPts x.1 c (smallR 1 0) fullShare.left (cont m x.1 c)
  | 3 => cPts x.1 c (smallR 1 1) fullShare.left (cont m x.1 c)
  | 4 => cPts x.1 c (smallR 1 2) fullShare.left (cont m x.1 c)
  | 5 => cPts x.1 c (smallR 1 3) fullShare.left (cont m x.1 c)

/-- What a transfer leaves at its receiver: the landing window with its contents. -/
def recvPay (x : Xf) (c : Dev nD) : sProp 𝕄 := cPts x.1 c (landR x.2) fullShare (cont m x.1 c)

/-- What a signal hands over may be kept in an invariant. -/
instance barPay_storable (d : Bool) (c : Dev nD) : BI.Storable (upEmb : UEmb _ 𝕄) (barPay (F := F) d c) := by unfold barPay; infer_instance
/-- What a transfer leaves at its sender may be kept in an invariant. -/
instance sendPay_storable (x : Xf) (c : Dev nD) : BI.Storable (upEmb : UEmb _ 𝕄) (sendPay m x c) := by
  unfold sendPay; split <;> infer_instance
/-- What a transfer leaves at its receiver may be kept in an invariant. -/
instance recvPay_storable (x : Xf) (c : Dev nD) : BI.Storable (upEmb : UEmb _ 𝕄) (recvPay m x c) := by unfold recvPay; infer_instance

/-! ## The schedule -/

/-- One round: a barrier cell has one unit from each neighbour, a transfer's cell one duty of the transfer's credit. -/
def Rd : Rounds.Schedule (GSem nD τ sig) Bool 𝕄 where
  duties g r := if r = 0 ∧ g.1.2 = .tc then (match g.2 with
    | .reg s => Finset.univ
    | .dma s => if (xOf s).isSome then {false} else ∅) else ∅
  unitless _ := False
  amount g _ _ := match g.2 with
    | .reg s => 1
    | .dma s => match xOf s with
      | some p => amt p.1.2
      | none => 1
  payload g _ d := match g.2 with
    | .reg s => barPay d g.1.1
    | .dma s => match xOf s with
      | some (x, false) => sendPay m x g.1.1
      | some (x, true) => recvPay m x g.1.1
      | none => iprop(emp)
  amount_pos g _ _ _ := by
    cases g.2 with
    | reg s => exact Nat.one_pos
    | dma s =>
      dsimp only
      split
      · exact amt_pos _
      · exact Nat.one_pos

/-- Every payload may be kept in an invariant. -/
instance Rd_payload_storable (g : GSem nD τ sig) (r : ℕ) (d : Bool) : BI.Storable (upEmb : UEmb _ 𝕄) ((Rd m).payload g r d) := by
  show BI.Storable upEmb (match g.2 with
    | .reg s => barPay d g.1.1
    | .dma s => match xOf s with
      | some (x, false) => sendPay m x g.1.1
      | some (x, true) => recvPay m x g.1.1
      | none => iprop(emp))
  (repeat' split) <;> infer_instance

section Sched
variable (c : Dev nD) (x : Xf) (b : Bool) (d : Bool)

/-- The barrier has a duty for each neighbour. -/
theorem duties_bar : (Rd m).duties (barCell c) 0 = Finset.univ := by dsimp only [Rd]; exact if_pos ⟨rfl, rfl⟩
/-- A transfer's end has one duty. -/
theorem duties_x : (Rd m).duties (xCell c x b) 0 = {false} := by
  dsimp only [Rd]; rw [if_pos ⟨rfl, rfl⟩, xOf_xs]; rfl
/-- There is one round only. -/
theorem duties_later (g : GSem nD τ sig) : ∀ r, 1 ≤ r → (Rd m).duties g r = ∅ :=
  fun r hr => by dsimp only [Rd]; rw [if_neg fun h => by omega]
/-- A signal adds one. -/
theorem amount_bar : (Rd m).amount (barCell c) 0 d = 1 := rfl
/-- A transfer adds its credit. -/
theorem amount_x : (Rd m).amount (xCell c x b) 0 d = amt x.2 := by dsimp only [Rd]; rw [xOf_xs]
/-- The barrier's round is done at two. -/
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
/-- A transfer's round is done at its credit. -/
theorem expect_x : (Rd m).expect (xCell c x b) 0 = amt x.2 := by
  unfold Schedule.expect Schedule.amountOf; rw [duties_x, Finset.sum_singleton, amount_x]
/-- A signal hands over the signaller's landing buffer. -/
theorem payload_bar : (Rd m).payload (barCell c) 0 d = barPay d c := rfl
/-- A transfer's sending end hands back its source's share. -/
theorem payload_send : (Rd m).payload (xCell c x false) 0 d = sendPay m x c := by dsimp only [Rd]; rw [xOf_xs]
/-- A transfer's receiving end hands over the landed window. -/
theorem payload_recv : (Rd m).payload (xCell c x true) 0 d = recvPay m x c := by dsimp only [Rd]; rw [xOf_xs]

/-- A barrier wait's takings: both neighbours' landing buffers. -/
theorem rest_bar : bigSep ((Rd m).duties (barCell c) 0 \ ∅) (fun d => (Rd m).payload (barCell c) 0 d) = iprop(barPay false c ∗ barPay true c) := by
  rw [Finset.sdiff_empty, duties_bar, bigSep_univ_eq_bigSepL [false, true] (by decide) (by decide)]; rfl
/-- The takings of a wait for a sending end. -/
theorem rest_send : bigSep ((Rd m).duties (xCell c x false) 0 \ ∅) (fun d => (Rd m).payload (xCell c x false) 0 d) = sendPay m x c := by
  rw [Finset.sdiff_empty, duties_x, bigSep_singleton, payload_send]
/-- The takings of a wait for a receiving end. -/
theorem rest_recv : bigSep ((Rd m).duties (xCell c x true) 0 \ ∅) (fun d => (Rd m).payload (xCell c x true) 0 d) = recvPay m x c := by
  rw [Finset.sdiff_empty, duties_x, bigSep_singleton, payload_recv]

end Sched

/-! ## What a device owes, and the levels -/

/-- The transfers in the order they are sent. -/
abbrev order : List Xf :=
  [(false, 0), (true, 0), (false, 1), (true, 1), (false, 2), (true, 2), (false, 3), (true, 3), (false, 4), (true, 4), (false, 5), (true, 5)]

/-- The credits device `c` owes for the transfers `l` it has not sent yet. -/
def Ox (c : Dev nD) (l : List Xf) : CellTallies nD τ sig Unit :=
  (l.map fun x => (tallyAt (xCell (tgt x.1 c) x true) () (amt x.2) : CellTallies nD τ sig Unit)).sum

/-- Sending a transfer pays its part of what is owed. -/
theorem Ox_cons (c : Dev nD) (x : Xf) (l : List Xf) : Ox c (x :: l) = Ox c l + tallyAt (xCell (tgt x.1 c) x true) () (amt x.2) := by
  unfold Ox; rw [List.map_cons, List.sum_cons, add_comm]

/-- What a device owes at launch: every transfer's credit and a unit to each neighbour's barrier. -/
def O₀ (c : Dev nD) : CellTallies nD τ sig Unit :=
  Ox c order + tallyAt (barCell (tgt false c)) () 1 + tallyAt (barCell (tgt true c)) () 1

/-- What is owed is owed to the receiving ends of the transfers not sent yet. -/
theorem Ox_pos {c : Dev nD} {l : List Xf} {g : GSem nD τ sig} {u : Unit} (h : 0 < Ox c l g u) : ∃ x ∈ l, g = xCell (tgt x.1 c) x true := by
  induction l with
  | nil => exact absurd h (Nat.lt_irrefl 0)
  | cons x l ih =>
    rw [Ox_cons] at h
    rcases Pipeline.add_pos_cases h with h | h
    · obtain ⟨y, hy, hg⟩ := ih h
      exact ⟨y, List.mem_cons_of_mem _ hy, hg⟩
    · exact ⟨x, List.mem_cons_self, (Pipeline.tallyAt_pos h).1⟩

/-- At launch credit is owed to receiving ends and to the neighbours' barriers. -/
theorem O₀_pos {c : Dev nD} {g : GSem nD τ sig} {u : Unit} (h : 0 < O₀ c g u) :
    (∃ x ∈ order, g = xCell (tgt x.1 c) x true) ∨ ∃ d, g = barCell (tgt d c) := by
  rcases Pipeline.add_pos_cases h with h | h
  · rcases Pipeline.add_pos_cases h with h | h
    · exact Or.inl (Ox_pos h)
    · exact Or.inr ⟨false, (Pipeline.tallyAt_pos h).1⟩
  · exact Or.inr ⟨true, (Pipeline.tallyAt_pos h).1⟩

/-- The hop of a transfer. -/
def hop (j : Fin 6) : ℕ := if j.val < 2 then j.val else 2

/-- One level per cell of a device's core. -/
def L (g : GSem nD τ sig) : Finset Unit := if g.1.2 = .tc then {()} else ∅
/-- Barrier cells at 1, a receive cell two above its hop, everything else (staging, sends) at 0. -/
def lv (g : GSem nD τ sig) (_ : Unit) : ℕ := match g.2 with
  | .reg _ => 1
  | .dma s => match xOf s with
    | some (x, true) => 2 + hop x.2
    | _ => 0

/-- No other thread has levels. -/
theorem L_of_ne (g : GSem nD τ sig) (h : g.1.2 ≠ .tc) : L g = ∅ := if_neg h
/-- Every cell of a device's core has one. -/
theorem L_tc (c : Dev nD) (sm : SemLoc sig) : () ∈ L ((c : Thread nD τ), sm) := by rw [L, if_pos rfl]; exact Finset.mem_singleton_self _
/-- The barrier's level. -/
theorem lv_bar (c : Dev nD) : lv (barCell c) () = 1 := rfl
/-- A receiving end's level. -/
theorem lv_recv (c : Dev nD) (x : Xf) : lv (xCell c x true) () = 2 + hop x.2 := by dsimp only [lv]; rw [xOf_xs]
/-- A sending end's level. -/
theorem lv_send (c : Dev nD) (x : Xf) : lv (xCell c x false) () = 0 := by dsimp only [lv]; rw [xOf_xs]

/-- A wait below the hops still owed may be made. -/
theorem mayWait_Ox (c : Dev nD) (sm : SemLoc sig) (l : List Xf) (h : ∀ x ∈ l, lv ((c : Thread nD τ), sm) () < 2 + hop x.2) :
    (levAts L lv : sProp 𝕄) ⊢ MayWait (c : Thread nD τ) sm () (Ox c l) :=
  Pipeline.mayWait_of_levAts (L_tc c sm) fun g u hg => by
    obtain ⟨x, hx, rfl⟩ := Ox_pos hg
    exact ⟨L_tc _ _, by rw [lv_recv]; exact h x hx⟩

/-- The staging waits come before anything is owed back, and sit below it all. -/
theorem mayWait_stage (c : Dev nD) (q : DmaSem sig) (hq : xOf q = none) (O : CellTallies nD τ sig Unit) (hO : O = O₀ c ∨ O = 0) :
    (levAts L lv : sProp 𝕄) ⊢ MayWait (c : Thread nD τ) (.dma q) () O := by
  have hl : lv ((c : Thread nD τ), .dma q) () = 0 := by dsimp only [lv]; rw [hq]
  rcases hO with rfl | rfl
  · refine Pipeline.mayWait_of_levAts (L_tc c _) fun g u hg => ?_
    rw [hl]
    rcases O₀_pos hg with ⟨x, -, rfl⟩ | ⟨d, rfl⟩
    · exact ⟨L_tc _ _, by rw [lv_recv]; omega⟩
    · exact ⟨L_tc _ _, Nat.one_pos⟩
  · rw [MayWait_zero]; iintro -; iempintro

end Cert.KernelIdeal.Ring

end
-- ==== Proof.KernelIdeal.Rules.lean ====
/-
The protocol's steps as the body takes them: a signal, a transfer of each hop, a wait; and the close of its cells.
-/
module

public import proofs.«01_k».proof.Proof.KernelIdeal.Schedule

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop variant is used: the body has no loop. -/
abbrev 𝒱₀ : Variants := Variants.none

/-! ## The state a device runs from -/

/-- Every cell's invariant, and that its round 0 is reached: what all devices share. -/
def records (K : Dev nD × CI → ℕ) : sProp 𝕄 :=
  iprop((bigSep Finset.univ fun ck : Dev nD × CI => cellInv ER (Rd m) (K ck) (kcell ck))
    ∗ bigSep Finset.univ fun ck : Dev nD × CI => reached ER (kcell ck) 0)

/-- The records may be used again and again. -/
instance records_persistent (K : Dev nD × CI → ℕ) : BI.Persistent (records m K) := by unfold records; infer_instance

/-- One cell's invariant out of all. -/
theorem inv_at (K : Dev nD × CI → ℕ) (ck : Dev nD × CI) :
    (bigSep Finset.univ fun ck : Dev nD × CI => (cellInv ER (Rd m) (K ck) (kcell ck) : sProp 𝕄)) ⊢ cellInv ER (Rd m) (K ck) (kcell ck) :=
  bigSep_elim (Finset.mem_univ ck)
omit [FloatOps F] in
/-- One cell's round out of all. -/
theorem reached_at (ck : Dev nD × CI) :
    (bigSep Finset.univ fun ck : Dev nD × CI => (reached ER (kcell ck) 0 : sProp 𝕄)) ⊢ reached ER (kcell ck) 0 :=
  bigSep_elim (Finset.mem_univ ck)
/-- The records give every cell's invariant. -/
theorem records_inv (K : Dev nD × CI → ℕ) (ck : Dev nD × CI) : records m K ⊢ cellInv ER (Rd m) (K ck) (kcell ck) := by
  unfold records; iintro ⟨#H, -⟩
  iapply (inv_at m K ck); iexact H
/-- The records give that every cell's round 0 is reached. -/
theorem records_reached (K : Dev nD × CI → ℕ) (ck : Dev nD × CI) : records m K ⊢ reached ER (kcell ck) 0 := by
  unfold records; iintro ⟨-, #H⟩
  iapply (reached_at (F := F) ck); iexact H

/-- What a device owes, whatever waits it has recorded. -/
def ow (c : Dev nD) (O : CellTallies nD τ sig Unit) : sProp 𝕄 := iprop(∃ W, owes (c : Thread nD τ) O W)

/-- One end of a transfer before its wait: the device's position there and the credit the wait spends. -/
def fly (c : Dev nD) (x : Xf) (b : Bool) : sProp 𝕄 :=
  iprop(atPos ER (xCell c x b) 0 ∅ 0 ∗ cred (tallyAt (xCell c x b) () (amt x.2)))

/-- A transfer not sent yet: the two duties it pays, the device's positions, and the credit of what it is to receive. -/
def rdy (c : Dev nD) (x : Xf) : sProp 𝕄 :=
  iprop(dutyTok ER (xCell c x false) 0 false ∗ dutyTok ER (xCell (tgt x.1 c) x true) 0 false
    ∗ atPos ER (xCell c x false) 0 ∅ 0 ∗ fly c x true)

/-- One end of a transfer after its wait. -/
abbrev dn (c : Dev nD) (x : Xf) (b : Bool) : sProp 𝕄 := atPos ER (xCell c x b) 1 ∅ 0

/-- What a wait at one end of a transfer brings. -/
abbrev xPay (x : Xf) (b : Bool) (c : Dev nD) : sProp 𝕄 := match b with
  | false => sendPay m x c
  | true => recvPay m x c

section Steps

variable (K : Dev nD × CI → ℕ) (c : Dev nD) {α : Type} {Q : α → sProp (MT nD τ sig Unit (Elt F) ℕ UU ℕ)}
  {k : PUnit → Prog (TpuEff nD τ sig (Elt F) Λ₀ .tc) α}

/-! ## Signals -/

/-- A signal to the neighbour `tgt (!d) c` hands it the landing buffer of direction `d`. -/
theorem wp_sig (d : Bool) (O : CellTallies nD τ sig Unit) {n : Dev nD} (hn : n = tgt (!d) c) {a : ℕ} (ha : a = 1) :
    iprop(records m K ∗ ow c (O + tallyAt (barCell (tgt (!d) c)) () 1) ∗ dutyTok ER (barCell (tgt (!d) c)) 0 d
        ∗ ∃ f, (cM d).view.loc (c : Thread nD τ) ↦{fullShare} f)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn; subst ha
  unfold ow
  iintro ⟨#HR, ⟨%W, HO⟩, Ht, Hb⟩ Hk
  iapply (Rounds.wp_signal 𝒱₀ ER (Rd m) (c : Thread nD τ) none (dst := (tgt (!d) c : Thread nD τ)) (κ := K (tgt (!d) c, .inl ()))
      (d := d) (by rw [duties_bar]; exact Finset.mem_univ _) (amount_bar m (tgt (!d) c) d) () O rfl) $$ [HO Ht Hb]
  · isplitr; · iapply (records_inv m K (tgt (!d) c, .inl ())); iexact HR
    isplitl [HO]; · iexact HO
    isplitl [Ht]; · iexact Ht
    isplitl [Hb]
    · rw [payload_bar]; unfold barPay; rw [tgt_forth]; iexact Hb
    · iapply (records_reached m K (tgt (!d) c, .inl ())); iexact HR
  iintro HO
  iapply Hk
  iexists W; iexact HO

/-- The wait for both neighbours' signals brings their landing buffers. -/
theorem wp_barrier (l : List Xf) (hl : ∀ x ∈ l, 1 < 2 + hop x.2) {a : ℕ} (ha : a = 2) :
    iprop(records m K ∗ levAts L lv ∗ cred (tallyAt (barCell c) () 2) ∗ atPos ER (barCell c) 0 ∅ 0 ∗ ow c (Ox c l))
      ⊢ iprop((iprop(atPos ER (barCell c) 1 ∅ 0 ∗ barPay false c ∗ barPay true c ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  unfold ow
  iintro ⟨#HR, #Hlev, Hc, Hat, ⟨%W, HO⟩⟩ Hk
  iapply (Rounds.wp_wait_rest_token 𝒱₀ ER (Rd m) (c : Thread nD τ) none (κ := K (c, .inl ()))
      (wpE_semWait_eq 𝒱₀ (c : Thread nD τ) none Set.univ) (Set.mem_univ _) () (O := Ox c l) (W := W) (R := 0) (m := 0) (T := ∅)
      (by rw [expect_bar])) $$ [Hc HO Hat]
  · isplitr; · iapply (records_inv m K (c, .inl ())); iexact HR
    isplitl [Hc]; · iexact Hc
    isplitl [HO]; · iexact HO
    isplitr; · iapply (mayWait_Ox c (.reg barS) l hl); iexact Hlev
    iexact Hat
  iintro ⟨HO, Hat, -, Hpay⟩
  ihave Hp := (Entails.of_eq (rest_bar m c)) $$ Hpay
  icases Hp with ⟨H1, H2⟩
  iapply Hk
  isplitl [Hat]; · iexact Hat
  isplitl [H1]; · iexact H1
  isplitl [H2]; · iexact H2
  iexists _; iexact HO

/-! ## Waits -/

/-- A wait at one end of a transfer brings back what its duty handed over. -/
theorem wp_dma (x : Xf) (b : Bool) (l : List Xf) (hl : ∀ y ∈ l, lv (xCell c x b) () < 2 + hop y.2) {s₁ : DmaSem sig} (hs : s₁ = xs x b)
    {sp sp' : Space} {s s' : Shape} {e e' : EltTy} {src : Memref sig .tc sp' s' e'} {dst : Memref sig .tc sp s e}
    {hsrc : src.view.WordExact} {hdst : dst.view.WordExact} (hN : dst.view.dmaCredit = amt x.2) :
    iprop(records m K ∗ levAts L lv ∗ fly c x b ∗ ow c (Ox c l))
      ⊢ iprop((iprop(dn c x b ∗ xPay m x b c ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s₁ src dst hsrc hdst) k) Q) := by
  subst hs
  unfold ow fly
  iintro ⟨#HR, #Hlev, ⟨Hat, Hc⟩, ⟨%W, HO⟩⟩ Hk
  iapply (Rounds.wp_wait_rest_token 𝒱₀ ER (Rd m) (c : Thread nD τ) none (κ := K (c, .inr (x, b)))
      (wpE_waitDma2_eq 𝒱₀ (c : Thread nD τ) none Set.univ) (Set.mem_univ _) () (O := Ox c l) (W := W) (R := 0) (m := 0) (T := ∅)
      (by rw [Nat.zero_add, expect_x, hN])) $$ [Hc HO Hat]
  · isplitr; · iapply (records_inv m K (c, .inr (x, b))); iexact HR
    isplitl [Hc]; · rw [hN]; iexact Hc
    isplitl [HO]; · iexact HO
    isplitr; · iapply (mayWait_Ox c (.dma (xs x b)) l hl); iexact Hlev
    iexact Hat
  iintro ⟨HO, Hat, -, Hpay⟩
  ihave Hp := (Entails.of_eq (show _ = xPay m x b c by cases b; exacts [rest_send m c x, rest_recv m c x])) $$ Hpay
  iapply Hk
  isplitl [Hat]; · iexact Hat
  isplitl [Hp]; · iexact Hp
  iexists _; iexact HO

/-! ## Transfers -/

/-- A transfer between any windows whose payloads are the schedule's. -/
theorem wp_xfer (x : Xf) (l : List Xf) {n : Dev nD} (hn : n = tgt x.1 c) {s : Shape} {src dst : Memref sig .tc .vmem s .bf16}
    {sS sV : DmaSem sig} (hS : sS = xs x false) (hV : sV = xs x true)
    {hsc : (dst : Memref sig (Dev.tc n : Thread nD τ).2.kind .vmem s .bf16).view.ref.isScScratch = false}
    {hsrc : src.view.WordExact} {hdst : dst.view.WordExact}
    {hsem : DmaTarget.Typed .vmem (.dma sV) (.remote (Dev.tc n : Thread nD τ) (dst : Memref sig (Dev.tc n : Thread nD τ).2.kind .vmem s .bf16) (.dma sS) hsc)}
    (hN : dst.view.dmaCredit = amt x.2) {fs : Buf (Elt F) (src.view.loc (c : Thread nD τ))} (fd : Buf (Elt F) (dst.view.loc (tgt x.1 c : Thread nD τ)))
    (hsend : (sendPay m x c : sProp 𝕄) = (src.view.loc (c : Thread nD τ) ↦[src.view.set]{fullShare.left} fs))
    (hland : (dst.view.loc (tgt x.1 c : Thread nD τ) ↦[dst.view.set]{fullShare} (dst.view.write (Elt F) fd (src.view.read (Elt F) fs) Finset.univ) : sProp 𝕄)
      = recvPay m x (tgt x.1 c)) :
    iprop(records m K ∗ rdy c x ∗ sendPay m x c ∗ (dst.view.loc (tgt x.1 c : Thread nD τ) ↦[dst.view.set]{fullShare} fd) ∗ ow c (Ox c (x :: l)))
      ⊢ iprop((iprop(fly c x false ∗ fly c x true ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sV) hsrc hdst hsem) k) Q) := by
  subst hn; subst hS; subst hV
  unfold ow rdy fly
  rw [Ox_cons, hsend]
  iintro ⟨#HR, ⟨Ht1, Ht2, Ha, Hv⟩, Hs, Hd, ⟨%W, HO⟩⟩ Hk
  iapply (Rounds.wp_send_pointsTo 𝒱₀ ER (Rd m) (c : Thread nD τ) none (κ₁ := K (c, .inr (x, false))) (κ₂ := K (tgt x.1 c, .inr (x, true)))
      (r₁ := 0) (r₂ := 0) (d₁ := false) (d₂ := false) (fs := fs) (fd := fd)
      (sS := SemLoc.dma (xs x false)) (sem := SemLoc.dma (xs x true))
      (by rw [duties_x]; exact Finset.mem_singleton_self _) (by rw [duties_x]; exact Finset.mem_singleton_self _)
      () () (amt x.2) hN (amount_x m c x false false) (amount_x m (tgt x.1 c) x true false) (Ox c l) rfl (W := W)
      (by rw [payload_send, hsend])
      (by rw [payload_recv, ← hland])) $$ [Hs Hd HO Ht1 Ht2]
  · isplitr; · iapply (records_inv m K (c, .inr (x, false))); iexact HR
    isplitr; · iapply (records_inv m K (tgt x.1 c, .inr (x, true))); iexact HR
    isplitl [Hs]; · iexact Hs
    isplitl [Hd]; · iexact Hd
    isplitl [HO]; · iexact HO
    isplitl [Ht1]; · iexact Ht1
    isplitr; · iapply (records_reached m K (c, .inr (x, false))); iexact HR
    isplitl [Ht2]; · iexact Ht2
    iapply (records_reached m K (tgt x.1 c, .inr (x, true))); iexact HR
  iintro ⟨Hc, HO⟩
  iapply Hk
  isplitl [Ha Hc]
  · isplitl [Ha]; · iexact Ha
    iexact Hc
  isplitl [Hv]; · iexact Hv
  iexists W; iexact HO

/-- A slot as a memory of its own has the elements of its window. -/
theorem set_big (d : Bool) (h : Fin 3) : (bigM d h).view.set = ((cM d).view.slice (bigR h)).set := View.set_reshape _ _
/-- So has a quarter. -/
theorem set_small (d : Bool) (h : Fin 3) (s : Fin 4) : (smallM d h s).view.set = ((cM d).view.slice (smallR h s)).set := View.set_reshape _ _

variable (d : Bool) (l : List Xf) {n : Dev nD} (hn : n = tgt d c) (fd : Buf (Elt F) ((cM d).view.loc (tgt d c : Thread nD τ)))
  {sS sV : DmaSem sig}

/-- A first hop: half of the device's rows to the neighbour's first slot. -/
theorem wp_hop0 (hn : n = tgt d c) (hS : sS = xs (d, 0) false) (hV : sV = xs (d, 0) true)
    {hsc : (bigM d 0 : Memref sig (Dev.tc n : Thread nD τ).2.kind .vmem S512x4096 .bf16).view.ref.isScScratch = false}
    {hsrc : (halfM d).view.WordExact} {hdst : (bigM d 0).view.WordExact}
    {hsem : DmaTarget.Typed .vmem (.dma sV) (.remote (Dev.tc n : Thread nD τ) (bigM d 0 : Memref sig (Dev.tc n : Thread nD τ).2.kind .vmem S512x4096 .bf16) (.dma sS) hsc)} :
    iprop(records m K ∗ rdy c (d, 0) ∗ sendPay m (d, 0) c ∗ cPts d (tgt d c) (bigR 0) fullShare fd ∗ ow c (Ox c ((d, 0) :: l)))
      ⊢ iprop((iprop(fly c (d, 0) false ∗ fly c (d, 0) true ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (halfM d) (.remote (Dev.tc n : Thread nD τ) (bigM d 0) (.dma sS) hsc) (.dma sV) hsrc hdst hsem) k) Q) := by
  have h := wp_xfer (α := α) (Q := Q) (k := k) m K c (d, 0) l hn hS hV (hsc := hsc) (hsrc := hsrc) (hdst := hdst) (hsem := hsem) (credit_big d 0) (fs := xstg m c) fd rfl (land0 m d c fd)
  rw [set_big] at h
  exact h

/-- A second hop: the first slot to the neighbour's second. -/
theorem wp_hop1 (hn : n = tgt d c) (hS : sS = xs (d, 1) false) (hV : sV = xs (d, 1) true)
    {hsc : (bigM d 1 : Memref sig (Dev.tc n : Thread nD τ).2.kind .vmem S512x4096 .bf16).view.ref.isScScratch = false}
    {hsrc : (bigM d 0).view.WordExact} {hdst : (bigM d 1).view.WordExact}
    {hsem : DmaTarget.Typed .vmem (.dma sV) (.remote (Dev.tc n : Thread nD τ) (bigM d 1 : Memref sig (Dev.tc n : Thread nD τ).2.kind .vmem S512x4096 .bf16) (.dma sS) hsc)} :
    iprop(records m K ∗ rdy c (d, 1) ∗ sendPay m (d, 1) c ∗ cPts d (tgt d c) (bigR 1) fullShare fd ∗ ow c (Ox c ((d, 1) :: l)))
      ⊢ iprop((iprop(fly c (d, 1) false ∗ fly c (d, 1) true ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bigM d 0) (.remote (Dev.tc n : Thread nD τ) (bigM d 1) (.dma sS) hsc) (.dma sV) hsrc hdst hsem) k) Q) := by
  have h := wp_xfer (α := α) (Q := Q) (k := k) m K c (d, 1) l hn hS hV (hsc := hsc) (hsrc := hsrc) (hdst := hdst) (hsem := hsem) (credit_big d 1) (fs := cont m d c) fd
    (by rw [set_big]; rfl) (land1 m d c fd)
  rw [set_big] at h
  exact h

/-- The quarter a transfer of the third hop moves. -/
abbrev quarter (j : Fin 6) : Fin 4 := (![0, 0, 0, 1, 2, 3] : Fin 6 → Fin 4) j

/-- A transfer of the third hop lands in its quarter of the last slot. -/
theorem land_quarter (j : Fin 6) (hj : 2 ≤ j.val) : landR j = smallR 2 (quarter j) := by
  fin_cases j <;> first | rfl | exact absurd hj (by decide)
/-- It leaves behind the half share of its quarter of the second slot. -/
theorem send_quarter (j : Fin 6) (hj : 2 ≤ j.val) : sendPay m (d, j) c = cPts d c (smallR 1 (quarter j)) fullShare.left (cont m d c) := by
  fin_cases j <;> first | rfl | exact absurd hj (by decide)
/-- The four transfers of the third hop credit the same. -/
theorem amt_quarter (j : Fin 6) (hj : 2 ≤ j.val) : amt j = amt 2 := by
  fin_cases j <;> first | rfl | exact absurd hj (by decide)

/-- A quarter of a third hop: a quarter of the second slot to the neighbour's third. -/
theorem wp_hop2 (j : Fin 6) (hj : 2 ≤ j.val) (s : Fin 4) (hs : s = quarter j) (hn : n = tgt d c) (hS : sS = xs (d, j) false) (hV : sV = xs (d, j) true)
    {hsc : (smallM d 2 s : Memref sig (Dev.tc n : Thread nD τ).2.kind .vmem S128x4096 .bf16).view.ref.isScScratch = false}
    {hsrc : (smallM d 1 s).view.WordExact} {hdst : (smallM d 2 s).view.WordExact}
    {hsem : DmaTarget.Typed .vmem (.dma sV) (.remote (Dev.tc n : Thread nD τ) (smallM d 2 s : Memref sig (Dev.tc n : Thread nD τ).2.kind .vmem S128x4096 .bf16) (.dma sS) hsc)} :
    iprop(records m K ∗ rdy c (d, j) ∗ sendPay m (d, j) c ∗ cPts d (tgt d c) (landR j) fullShare fd ∗ ow c (Ox c ((d, j) :: l)))
      ⊢ iprop((iprop(fly c (d, j) false ∗ fly c (d, j) true ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (smallM d 1 s) (.remote (Dev.tc n : Thread nD τ) (smallM d 2 s) (.dma sS) hsc) (.dma sV) hsrc hdst hsem) k) Q) := by
  subst hs
  have h := wp_xfer (α := α) (Q := Q) (k := k) m K c (d, j) l hn hS hV (hsc := hsc) (hsrc := hsrc) (hdst := hdst) (hsem := hsem)
    ((credit_small d 2 (quarter j)).trans (amt_quarter j hj).symm) (fs := cont m d c) fd
    (by rw [set_small]; exact send_quarter m c d j hj) (by rw [land2]; unfold recvPay; rw [land_quarter j hj])
  rw [set_small] at h
  rw [land_quarter j hj]
  exact h

end Steps

/-! ## The close -/

/-- Every cell of a device waited out closes, its counter at zero. -/
theorem close_all (K : Dev nD × CI → ℕ) (c : Dev nD) :
    iprop(records m K ∗ bigSep Finset.univ fun k : CI => atPos ER (kcell (c, k)) 1 ∅ 0)
      ⊢ |={Set.univ}=> bigSep Finset.univ fun k : CI => (semVal (kcell (c, k)) 0 : sProp 𝕄) := by
  refine ((sep_mono_left (BI.bigSep_of_persistent (Finset.univ : Finset CI) (records m K))).trans ?_).trans (bigSep_fupd _ _)
  rw [← bigSep_sep']
  refine bigSep_mono fun k _ => ?_
  refine (sep_mono_left (records_inv m K (c, k))).trans
    (Rounds.cell_close ER (Rd m) (Set.mem_univ (K (c, k))) (fun h => h) (R := 0 + 1) (duties_later m (kcell (c, k))))

end Cert.KernelIdeal.Ring

end
-- ==== Proof.KernelIdeal.Access.lean ====
/-
The body's accesses to its buffers: what its loads read, and what its stores leave in the result's buffer.
-/
module

public import proofs.«01_k».proof.Proof.KernelIdeal.Rules
public import Idealize.ShloMosaic.Lib.Writes

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.View (Piece)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the result's buffer comes to hold -/

/-- A slot of a landing buffer, as the body reads it. -/
def slotV (d : Bool) (h : Fin 3) (c : Dev nD) : Vec F S1x512x4096 .bf16 := fun x => contV m d c ((bigR h).emb x)
/-- A quarter of the last slot, as the body reads it. -/
def quartV (d : Bool) (s : Fin 4) (c : Dev nD) : Vec F S1x128x4096 .bf16 := fun x => contV m d c ((smallR 2 s).emb x)

/-- Where the rows of the first or second slot are stored. -/
def offB (d : Bool) (h : Fin 2) (c : Dev nD) : Fin 2 → Nat := match d with
  | false => k0_off2 c (BitVec.ofNat 32 (1 + h.val))
  | true => k0_off3 c (BitVec.ofNat 32 (1 + h.val))
/-- Where the rows of a quarter of the last slot are stored. -/
def offS (d : Bool) (s : Fin 4) (c : Dev nD) : Fin 2 → Nat := match d with
  | false => k0_off4 c (BitVec.ofNat 32 (128 * s.val))
  | true => k0_off5 c (BitVec.ofNat 32 (128 * s.val))

/-- Where the stores of the first two slots begin, as rows and columns. -/
theorem offB_eq (d : Bool) (h : Fin 2) (c : Dev nD) : offB d h c = ![row d h.val 0 c, 0] := by
  cases d
  · exact off2_eq c h
  · exact off3_eq c h
/-- Where the stores of the last slot's quarters begin, as rows and columns. -/
theorem offS_eq (d : Bool) (s : Fin 4) (c : Dev nD) : offS d s c = ![row d 2 (128 * s.val) c, 0] := by
  cases d
  · exact off4_eq c s
  · exact off5_eq c s

/-- A half's row `t` is at most the result's row `3584 + t`. -/
theorem row_le (d : Bool) (h t : ℕ) (c : Dev nD) : row d h t c ≤ 3584 + t := by
  have := (orig d h c).isLt
  have h4 : (orig d h c).val < 4 := this
  unfold row; split <;> omega

/-- A store of 512 rows fits the result. -/
theorem offB_inb (d : Bool) (h : Fin 2) (c : Dev nD) : ∀ a, offB d h c a + S512x512.size a ≤ S4096x512.size a := by
  rw [offB_eq]; have := row_le d h.val 0 c
  intro a; fin_cases a
  · show row d h.val 0 c + 512 ≤ 4096; omega
  · show 0 + 512 ≤ 512; omega
/-- A store of 128 rows fits the result. -/
theorem offS_inb (d : Bool) (s : Fin 4) (c : Dev nD) : ∀ a, offS d s c a + S128x512.size a ≤ S4096x512.size a := by
  rw [offS_eq]; have := row_le d 2 (128 * s.val) c; have hs := s.isLt
  intro a; fin_cases a
  · show row d 2 (128 * s.val) c + 128 ≤ 4096; omega
  · show 0 + 512 ≤ 512; omega

/-- The device's own rows of the result, and the product of its own block. -/
def pieceO (c : Dev nD) : Piece (Elt F) S4096x512 .f32 :=
  ⟨Rect.unit (s := S4096x512) (k0_off1 c) S1024x512.size (k0_off1_inb c), k0_pay1 (xstg m c) (wstg m c)⟩
/-- The rows a first or second slot gives, and their product. -/
def pieceB (d : Bool) (h : Fin 2) (c : Dev nD) : Piece (Elt F) S4096x512 .f32 :=
  ⟨Rect.unit (s := S4096x512) (offB d h c) S512x512.size (offB_inb d h c), k0_pay5 (slotV m d h.castSucc c) (wstg m c)⟩
/-- The rows a quarter of the last slot gives, and their product. -/
def pieceS (d : Bool) (s : Fin 4) (c : Dev nD) : Piece (Elt F) S4096x512 .f32 :=
  ⟨Rect.unit (s := S4096x512) (offS d s c) S128x512.size (offS_inb d s c), k0_pay8 (quartV m d s c) (wstg m c)⟩

/-- The stores of the body, the last first. -/
def pieces (c : Dev nD) : List (Piece (Elt F) S4096x512 .f32) :=
  [pieceS m true 3 c, pieceS m false 3 c, pieceS m true 2 c, pieceS m false 2 c, pieceS m true 1 c, pieceS m false 1 c,
   pieceS m true 0 c, pieceS m false 0 c, pieceB m true 1 c, pieceB m false 1 c, pieceB m true 0 c, pieceB m false 0 c, pieceO m c]

/-- What the result's buffer holds after some stores. -/
def stored (c : Dev nD) (f : Buf (Elt F) (oM.view.loc (c : Thread nD τ))) (Ls : List (Piece (Elt F) S4096x512 .f32)) :
    Buf (Elt F) (oM.view.loc (c : Thread nD τ)) := oM.view.writes (Elt F) f Ls

/-- Contents to start from: any would do. -/
def zeros : (cc0_stg2_0 : Ref sig .tc).ty.Contents (Elt F) := fun _ => FloatOps.ofBits .f32 0#32
/-- What the result's buffer holds at the end. -/
def outAt (c : Dev nD) : (cc0_stg2_0 : Ref sig .tc).ty.Contents (Elt F) := oM.view.writes (Elt F) zeros (pieces m c)

/-! ## The body's accesses -/

section Acc
variable (c : Dev nD) {α : Type} {Q : α → sProp (MT nD τ sig Unit (Elt F) ℕ UU ℕ)}

/-- A load of the device's whole block of `w_mat`. -/
theorem wp_getW {q : PosShare TreeShare} {hi : ∀ a, (![0, 0] : Fin 2 → Nat) a + S4096x512.size a ≤ S4096x512.size a}
    {hl : wM.view.LoadsAt (Rect.unit (s := S4096x512) ![0, 0] S4096x512.size hi).toLoadRect}
    {k : Vec F S4096x512 .bf16 → Prog (TpuEff nD τ sig (Elt F) Λ₀ .tc) α} :
    (wM.view.loc (c : Thread nD τ) ↦{q} wstg m c)
      ⊢ iprop(((wM.view.loc (c : Thread nD τ) ↦{q} wstg m c)
            -∗ wp frame (wpE (defs₀ (F := F)) 𝒱₀ (c : Thread nD τ) none) Set.univ (k (wstg m c)) Q)
          -∗ wp frame (wpE (defs₀ (F := F)) 𝒱₀ (c : Thread nD τ) none) Set.univ (.op (.load wM (Rect.unit (s := S4096x512) ![0, 0] S4096x512.size hi).toLoadRect hl) k) Q) := by
  have h := wp_load 𝒱₀ (c : Thread nD τ) none (Γ := .empty) Set.univ (defs := defs₀ (F := F)) (m := wM) (hl := hl) (k := k) (Q := Q) (q := q) (f := wstg m c) (S := Finset.univ) (Finset.subset_univ _)
  rw [show wM.view.readAt (Elt F) (Rect.unit (s := S4096x512) ![0, 0] S4096x512.size hi).toLoadRect (wstg m c) = wstg m c from
    Memref.readAt_unit_zero (Elt F) cc0_stg1_0 (by funext a; fin_cases a <;> rfl) hi _] at h
  exact h

/-- A load of the device's whole block of `x`. -/
theorem wp_getX {q : PosShare TreeShare} {hi : ∀ a, (![0, 0] : Fin 2 → Nat) a + S1024x4096.size a ≤ S1024x4096.size a}
    {hl : xM.view.LoadsAt (Rect.unit (s := S1024x4096) ![0, 0] S1024x4096.size hi).toLoadRect}
    {k : Vec F S1024x4096 .bf16 → Prog (TpuEff nD τ sig (Elt F) Λ₀ .tc) α} :
    (xM.view.loc (c : Thread nD τ) ↦{q} xstg m c)
      ⊢ iprop(((xM.view.loc (c : Thread nD τ) ↦{q} xstg m c)
            -∗ wp frame (wpE (defs₀ (F := F)) 𝒱₀ (c : Thread nD τ) none) Set.univ (k (xstg m c)) Q)
          -∗ wp frame (wpE (defs₀ (F := F)) 𝒱₀ (c : Thread nD τ) none) Set.univ (.op (.load xM (Rect.unit (s := S1024x4096) ![0, 0] S1024x4096.size hi).toLoadRect hl) k) Q) := by
  have h := wp_load 𝒱₀ (c : Thread nD τ) none (Γ := .empty) Set.univ (defs := defs₀ (F := F)) (m := xM) (hl := hl) (k := k) (Q := Q) (q := q) (f := xstg m c) (S := Finset.univ) (Finset.subset_univ _)
  rw [show xM.view.readAt (Elt F) (Rect.unit (s := S1024x4096) ![0, 0] S1024x4096.size hi).toLoadRect (xstg m c) = xstg m c from
    Memref.readAt_unit_zero (Elt F) cc0_stg0_0 (by funext a; fin_cases a <;> rfl) hi _] at h
  exact h

/-- A load of a window of a landing buffer that has landed. -/
theorem wp_getC (d : Bool) (r : Rect S3x512x4096) {q : PosShare TreeShare} {hl : (cM d).view.LoadsAt r.toLoadRect}
    {k : (r.shape.Idx → Elt F .bf16) → Prog (TpuEff nD τ sig (Elt F) Λ₀ .tc) α} :
    cPts d c r q (cont m d c)
      ⊢ iprop((cPts d c r q (cont m d c)
            -∗ wp frame (wpE (defs₀ (F := F)) 𝒱₀ (c : Thread nD τ) none) Set.univ (k fun x => contV m d c (r.emb x)) Q)
          -∗ wp frame (wpE (defs₀ (F := F)) 𝒱₀ (c : Thread nD τ) none) Set.univ (.op (.load (cM d) r.toLoadRect hl) k) Q) := by
  have h := wp_load_rect 𝒱₀ (c : Thread nD τ) none (Γ := .empty) Set.univ (defs := defs₀ (F := F)) (m := cM d) (hl := hl) (k := k) (Q := Q) (q := q) (f := cont m d c) (S := ((cM d).view.slice r).set) (Finset.Subset.refl _)
  rw [show ((cM d).access r).read (Elt F) (cont m d c) = fun x => contV m d c (r.emb x) by cases d <;> rfl] at h
  exact h

/-- A load of a slot. -/
theorem wp_getB (d : Bool) (h : Fin 3) {q : PosShare TreeShare} {hl : (cM d).view.LoadsAt (bigR h).toLoadRect}
    {k : Vec F S1x512x4096 .bf16 → Prog (TpuEff nD τ sig (Elt F) Λ₀ .tc) α} :
    cPts d c (bigR h) q (cont m d c)
      ⊢ iprop((cPts d c (bigR h) q (cont m d c)
            -∗ wp frame (wpE (defs₀ (F := F)) 𝒱₀ (c : Thread nD τ) none) Set.univ (k (slotV m d h c)) Q)
          -∗ wp frame (wpE (defs₀ (F := F)) 𝒱₀ (c : Thread nD τ) none) Set.univ (.op (.load (cM d) (bigR h).toLoadRect hl) k) Q) :=
  wp_getC m c d (bigR h)
/-- A load of a quarter of the last slot. -/
theorem wp_getS (d : Bool) (s : Fin 4) {q : PosShare TreeShare} {hl : (cM d).view.LoadsAt (smallR 2 s).toLoadRect}
    {k : Vec F S1x128x4096 .bf16 → Prog (TpuEff nD τ sig (Elt F) Λ₀ .tc) α} :
    cPts d c (smallR 2 s) q (cont m d c)
      ⊢ iprop((cPts d c (smallR 2 s) q (cont m d c)
            -∗ wp frame (wpE (defs₀ (F := F)) 𝒱₀ (c : Thread nD τ) none) Set.univ (k (quartV m d s c)) Q)
          -∗ wp frame (wpE (defs₀ (F := F)) 𝒱₀ (c : Thread nD τ) none) Set.univ (.op (.load (cM d) (smallR 2 s).toLoadRect hl) k) Q) :=
  wp_getC m c d (smallR 2 s)

/-- The result's buffer after some stores. -/
abbrev oPts (f : Buf (Elt F) (oM.view.loc (c : Thread nD τ))) (Ls : List (Piece (Elt F) S4096x512 .f32)) : sProp 𝕄 :=
  oM.view.loc (c : Thread nD τ) ↦{fullShare} stored c f Ls

/-- A load from the result's buffer whose value is not used. -/
theorem wp_peek {f : Buf (Elt F) (oM.view.loc (c : Thread nD τ))} {Ls : List (Piece (Elt F) S4096x512 .f32)} {r : LoadRect S4096x512} {hl : oM.view.LoadsAt r}
    {k : (r.shape.Idx → Elt F .f32) → Prog (TpuEff nD τ sig (Elt F) Λ₀ .tc) α} :
    oPts c f Ls
      ⊢ iprop((oPts c f Ls -∗ ∀ v, wp frame (wpE (defs₀ (F := F)) 𝒱₀ (c : Thread nD τ) none) Set.univ (k v) Q)
          -∗ wp frame (wpE (defs₀ (F := F)) 𝒱₀ (c : Thread nD τ) none) Set.univ (.op (.load oM r hl) k) Q) := by
  iintro H Hk
  iapply (wp_load 𝒱₀ (c : Thread nD τ) none Set.univ (m := oM) (hl := hl) (S := Finset.univ) (Finset.subset_univ _)) $$ H; iintro H
  ispecialize Hk $$ H
  ispecialize Hk $$ %_
  iexact Hk

/-- A store to the result's buffer: one piece more. -/
theorem wp_put (p : Piece (Elt F) S4096x512 .f32) {f : Buf (Elt F) (oM.view.loc (c : Thread nD τ))} {Ls : List (Piece (Elt F) S4096x512 .f32)}
    {r : Rect S4096x512} {w : r.shape.Idx → Elt F .f32} {hx : (oM.access r).Stores Finset.univ} {hm}
    {k : PUnit → Prog (TpuEff nD τ sig (Elt F) Λ₀ .tc) α} (hp : p = ⟨r, w⟩) :
    oPts c f Ls
      ⊢ iprop((oPts c f (p :: Ls) -∗ wp frame (wpE (defs₀ (F := F)) 𝒱₀ (c : Thread nD τ) none) Set.univ (k ⟨⟩) Q)
          -∗ wp frame (wpE (defs₀ (F := F)) 𝒱₀ (c : Thread nD τ) none) Set.univ (.op (.store oM r w Finset.univ hx hm) k) Q) := by
  subst hp
  exact wp_store 𝒱₀ (c : Thread nD τ) none (Γ := .empty) Set.univ (defs := defs₀ (F := F)) (m := oM) (hx := hx) (hm := hm) (k := k) (Q := Q) (f := stored c f Ls) (S := Finset.univ) (Finset.subset_univ _)

end Acc

end Cert.KernelIdeal.Ring

end
-- ==== Proof.KernelIdeal.Cover.lean ====
/-
The body's thirteen stores cover the result's buffer, so that what it holds in the end does not depend on what it held.
-/
module

public import proofs.«01_k».proof.Proof.KernelIdeal.Access

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.View (Piece)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Going round in either direction, a device and the three its slots come from are all four. -/
theorem all_four : ∀ (d : Bool) (c q : Dev nD), q = c ∨ q = orig d 0 c ∨ q = orig d 1 c ∨ q = orig d 2 c := by
  unfold orig; decide

/-- A device's own store covers its own rows. -/
theorem mem_pieceO (c : Dev nD) (y : S4096x512.Idx) (h : (y 0).val / 1024 = c.val) : y ∈ (pieceO m c).1.set := by
  refine (Rect.mem_set_unit (inb := k0_off1_inb c)).mpr fun a => ?_
  have h1 : (y 1).val < 512 := (y 1).isLt
  rw [off1_eq]
  fin_cases a
  · show 1024 * c.val ≤ (y 0).val ∧ (y 0).val < 1024 * c.val + 1024; omega
  · show 0 ≤ (y 1).val ∧ (y 1).val < 0 + 512; omega

/-- The store of a first or second slot covers the half `d` of the rows of the device it came from. -/
theorem mem_pieceB (d : Bool) (h : Fin 2) (c : Dev nD) (y : S4096x512.Idx) (hq : (y 0).val / 1024 = (orig d h.val c).val)
    (hd : (y 0).val % 1024 / 512 = if d then 1 else 0) : y ∈ (pieceB m d h c).1.set := by
  refine (Rect.mem_set_unit (inb := offB_inb d h c)).mpr fun a => ?_
  have h1 : (y 1).val < 512 := (y 1).isLt
  rw [offB_eq]
  fin_cases a
  · show row d h.val 0 c ≤ (y 0).val ∧ (y 0).val < row d h.val 0 c + 512
    unfold row; cases d <;> simp only [if_true, Bool.false_eq_true, if_false] at hd ⊢ <;> omega
  · show 0 ≤ (y 1).val ∧ (y 1).val < 0 + 512; omega

/-- The store of a quarter of the last slot covers that quarter of the half `d` of the rows of the device it came from. -/
theorem mem_pieceS (d : Bool) (s : Fin 4) (c : Dev nD) (y : S4096x512.Idx) (hq : (y 0).val / 1024 = (orig d 2 c).val)
    (hd : (y 0).val % 1024 / 512 = if d then 1 else 0) (hs : (y 0).val % 512 / 128 = s.val) : y ∈ (pieceS m d s c).1.set := by
  refine (Rect.mem_set_unit (inb := offS_inb d s c)).mpr fun a => ?_
  have h1 : (y 1).val < 512 := (y 1).isLt
  rw [offS_eq]
  fin_cases a
  · show row d 2 (128 * s.val) c ≤ (y 0).val ∧ (y 0).val < row d 2 (128 * s.val) c + 128
    unfold row; cases d <;> simp only [if_true, Bool.false_eq_true, if_false] at hd ⊢ <;> omega
  · show 0 ≤ (y 1).val ∧ (y 1).val < 0 + 512; omega

/-- The slots' stores are among the thirteen. -/
theorem pieceB_mem (d : Bool) (h : Fin 2) (c : Dev nD) : pieceB m d h c ∈ pieces m c := by
  refine List.mem_of_getElem? (i := 11 - 2 * h.val - d.toNat) ?_
  cases d <;> fin_cases h <;> rfl
/-- The quarters' stores are among the thirteen. -/
theorem pieceS_mem (d : Bool) (s : Fin 4) (c : Dev nD) : pieceS m d s c ∈ pieces m c := by
  refine List.mem_of_getElem? (i := 7 - 2 * s.val - d.toNat) ?_
  cases d <;> fin_cases s <;> rfl
/-- The device's own store is among the thirteen. -/
theorem pieceO_mem (c : Dev nD) : pieceO m c ∈ pieces m c := by
  unfold pieces; simp only [List.mem_cons, true_or, or_true]

/-- Every element of the result's buffer is stored to. -/
theorem cover (c : Dev nD) (y : S4096x512.Idx) : ∃ p ∈ pieces m c, y ∈ p.1.set := by
  have hy : (y 0).val < 4096 := (y 0).isLt
  have hh : ∃ d : Bool, (y 0).val % 1024 / 512 = if d then 1 else 0 := by
    rcases Nat.lt_or_ge ((y 0).val % 1024) 512 with h | h
    · exact ⟨false, by rw [if_neg (by decide)]; omega⟩
    · exact ⟨true, by rw [if_pos rfl]; omega⟩
  obtain ⟨d, hd⟩ := hh
  rcases all_four d c ⟨(y 0).val / 1024, by show _ < 4; omega⟩ with h | h | h | h
  · exact ⟨_, pieceO_mem m c, mem_pieceO m c y (congrArg Fin.val h)⟩
  · exact ⟨_, pieceB_mem m d 0 c, mem_pieceB m d 0 c y (congrArg Fin.val h) hd⟩
  · exact ⟨_, pieceB_mem m d 1 c, mem_pieceB m d 1 c y (congrArg Fin.val h) hd⟩
  · exact ⟨_, pieceS_mem m d ⟨(y 0).val % 512 / 128, by omega⟩ c, mem_pieceS m d _ c y (congrArg Fin.val h) hd rfl⟩

/-- What the result's buffer holds in the end, whatever it held. -/
theorem stored_pieces (c : Dev nD) (f : Buf (Elt F) (oM.view.loc (c : Thread nD τ))) : stored c f (pieces m c) = outAt m c := by
  have h := View.read_writes_of_cover (Val := Elt F) oM.view f oM.view (zeros (F := F)) (pieces m c) (cover m c)
  rw [View.read_whole, View.read_whole] at h
  exact h

end Cert.KernelIdeal.Ring

end
-- ==== Proof.KernelIdeal.Value.lean ====
/-
The kernel's result over the extended reals: at row `i` and column `j` of a device's block, the sum over `k` of the products
of the whole `x` at `(i, k)` and the device's own `w_mat` at `(k, j)`, or zero where that is less.
-/
module

public import proofs.«01_k».proof.Proof.KernelIdeal.Cover
public import Idealize.ShloMosaic.Lib.Pointwise

@[expose] public section

noncomputable section

namespace Cert.KernelIdeal.Ring

open Cert.KernelIdeal Cert.KernelIdeal.Gen
open Idealize.ShloMosaic
open Idealize.ShloMosaic.TcCoe
open Idealize.ShloMosaic.View (Piece)

variable (m : (ℓ : Loc nD τ sig) → Buf (Elt Ideal) ℓ)

/-! ## One stored block -/

/-- The product of the device's own block, at an index. -/
theorem own_apply (X : Vec Ideal S1024x4096 .bf16) (W : Vec Ideal S4096x512 .bf16) (j : S1024x512.Idx) :
    k0_pay1 X W j = max (∑ k : Fin 4096, X (ix2 (j 0) k) * W (ix2 k (j 1))) 0 := by
  pointwise [k0_pay1]

/-- The product of a landed half block, at an index. -/
theorem half_apply (X : Vec Ideal S1x512x4096 .bf16) (W : Vec Ideal S4096x512 .bf16) (j : S512x512.Idx) :
    k0_pay5 X W j = max (∑ k : Fin 4096, X (ix3 0 (j 0) k) * W (ix2 k (j 1))) 0 := by
  pointwise [k0_pay5]

/-- The product of a landed quarter of a half block, at an index. -/
theorem quarter_apply (X : Vec Ideal S1x128x4096 .bf16) (W : Vec Ideal S4096x512 .bf16) (j : S128x512.Idx) :
    k0_pay8 X W j = max (∑ k : Fin 4096, X (ix3 0 (j 0) k) * W (ix2 k (j 1))) 0 := by
  pointwise [k0_pay8]

/-! ## The whole of `x` -/

/-- The shape of the whole `x`. -/
abbrev SX : Shape := ⟨2, ![4096, 4096]⟩

/-- The devices' blocks of `x`, one below the other. -/
def xAll (i : SX.Idx) : EReal :=
  xstg m ⟨(i 0).val / 1024, Nat.div_lt_of_lt_mul (i 0).isLt⟩ (ix2 (⟨(i 0).val % 1024, Nat.mod_lt _ (by decide)⟩ : Fin 1024) (i 1))

/-- Row `r` of device `e`'s block is row `1024 e + r` of the whole. -/
theorem xAll_row (e : Dev nD) (r : S1024x4096.Idx) (i : SX.Idx) (h0 : (i 0).val = 1024 * e.val + (r 0).val)
    (h1 : (i 1).val = (r 1).val) : xstg m e r = xAll m i := by
  have hr : (r 0).val < 1024 := (r 0).isLt
  have he : e = ⟨(i 0).val / 1024, Nat.div_lt_of_lt_mul (i 0).isLt⟩ := Fin.ext (by show e.val = (i 0).val / 1024; omega)
  unfold xAll
  rw [← he]
  congr 1
  · funext a; fin_cases a
    · exact Fin.ext (by show (r 0).val = (i 0).val % 1024; omega)
    · exact Fin.ext h1.symm

/-- The kernel's result on device `c`. -/
def prod (c : Dev nD) (y : S4096x512.Idx) : EReal := max (∑ k : Fin 4096, xAll m (ix2 (y 0) k) * wstg m c (ix2 k (y 1))) 0

/-- A stored product is the result where its rows are rows of the whole `x` and its columns those of the result. -/
theorem prod_of (c : Dev nD) (y : S4096x512.Idx) (j : Fin 512) (a : Fin 4096 → EReal) (ha : ∀ k, a k = xAll m (ix2 (y 0) k))
    (hj : (y 1).val = j.val) : max (∑ k : Fin 4096, a k * wstg m c (ix2 k j)) 0 = prod m c y := by
  obtain rfl : y 1 = j := Fin.ext hj
  unfold prod; simp only [ha]

/-! ## The pieces agree with the result -/

/-- The device's own store agrees with the result. -/
theorem pieceO_apply (c : Dev nD) (x : (pieceO m c).1.shape.Idx) : (pieceO m c).2 x = prod m c ((pieceO m c).1.emb x) := by
  refine (own_apply (xstg m c) (wstg m c) x).trans (prod_of m c _ (x 1) _ (fun k => xAll_row m c _ _ ?_ rfl) ?_)
  · show k0_off1 c 0 + 1 * (x 0).val = 1024 * c.val + (x 0).val
    rw [off1_eq]; show 1024 * c.val + 1 * (x 0).val = _; omega
  · show k0_off1 c 1 + 1 * (x 1).val = (x 1).val
    rw [off1_eq]; show 0 + 1 * (x 1).val = _; omega

/-- An element of a landing buffer is one of the whole `x`: of the device it came from, of the half that went its way. -/
theorem contV_row (d : Bool) (c : Dev nD) (i : S3x512x4096.Idx) (y : SX.Idx) (h0 : (y 0).val = row d (i 0).val (i 1).val c)
    (h1 : (y 1).val = (i 2).val) : contV m d c i = xAll m y := by
  refine xAll_row m _ _ y ?_ ?_
  · show (y 0).val = 1024 * (orig d (i 0).val c).val + ((if d then 512 else 0) + 1 * (i 1).val)
    rw [h0]; unfold row; omega
  · show (y 1).val = 0 + 1 * (i 2).val
    omega

/-- A slot's store agrees with the result. -/
theorem pieceB_apply (d : Bool) (h : Fin 2) (c : Dev nD) (x : (pieceB m d h c).1.shape.Idx) :
    (pieceB m d h c).2 x = prod m c ((pieceB m d h c).1.emb x) := by
  refine (half_apply (slotV m d h.castSucc c) (wstg m c) x).trans (prod_of m c _ (x 1) _ (fun k => contV_row m d c _ _ ?_ ?_) ?_)
  · show offB d h c 0 + 1 * (x 0).val = row d (h.val + 1 * 0) (0 + 1 * (x 0).val) c
    rw [offB_eq]; show row d h.val 0 c + 1 * (x 0).val = _
    unfold row; simp only [Nat.mul_zero, Nat.add_zero]; omega
  · show k.val = 0 + 1 * k.val
    omega
  · show offB d h c 1 + 1 * (x 1).val = (x 1).val
    rw [offB_eq]; show 0 + 1 * (x 1).val = _; omega

/-- A quarter's store agrees with the result. -/
theorem pieceS_apply (d : Bool) (s : Fin 4) (c : Dev nD) (x : (pieceS m d s c).1.shape.Idx) :
    (pieceS m d s c).2 x = prod m c ((pieceS m d s c).1.emb x) := by
  refine (quarter_apply (quartV m d s c) (wstg m c) x).trans (prod_of m c _ (x 1) _ (fun k => contV_row m d c _ _ ?_ ?_) ?_)
  · show offS d s c 0 + 1 * (x 0).val = row d (2 + 1 * 0) (128 * s.val + 1 * (x 0).val) c
    rw [offS_eq]; show row d 2 (128 * s.val) c + 1 * (x 0).val = _
    unfold row; simp only [Nat.mul_zero, Nat.add_zero]; omega
  · show k.val = 0 + 1 * k.val
    omega
  · show offS d s c 1 + 1 * (x 1).val = (x 1).val
    rw [offS_eq]; show 0 + 1 * (x 1).val = _; omega

/-- All thirteen stores agree with the result. -/
theorem pieces_apply (c : Dev nD) : ∀ p ∈ pieces m c, ∀ x : p.1.shape.Idx, p.2 x = prod m c (p.1.emb x) := by
  unfold pieces
  simp only [List.forall_mem_cons, List.not_mem_nil, false_implies, implies_true, and_true]
  exact ⟨pieceS_apply m _ _ c, pieceS_apply m _ _ c, pieceS_apply m _ _ c, pieceS_apply m _ _ c, pieceS_apply m _ _ c,
    pieceS_apply m _ _ c, pieceS_apply m _ _ c, pieceS_apply m _ _ c, pieceB_apply m _ _ c, pieceB_apply m _ _ c,
    pieceB_apply m _ _ c, pieceB_apply m _ _ c, pieceO_apply m c⟩

/-- What the result's buffer holds in the end. -/
theorem outAt_eq (c : Dev nD) (y : S4096x512.Idx) : outAt m c y = prod m c y := by
  have h := View.read_writes_apply_of_pieces (Val := Elt Ideal) oM.view (zeros (F := Ideal)) (prod m c) (pieces m c) (pieces_apply m c) y (cover m c y)
  rw [View.read_whole] at h
  exact h

end Cert.KernelIdeal.Ring

end
-- ==== Proof.KernelIdeal.Stretch.lean ====
/-
The stretches the body repeats, each stated once: the waits at both ends of a transfer, a product stored, and the
shares that are lent and brought together.
-/
module

public import proofs.«01_k».proof.Proof.KernelIdeal.Access

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.View (Piece)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body's recurring stretches -/

section Stretch
variable (K : Dev nD × CI → ℕ) (c : Dev nD) {α : Type} {Q : α → sProp (MT nD τ sig Unit (Elt F) ℕ UU ℕ)}

/-- Both ends of a transfer after their waits. -/
abbrev fin2 (c : Dev nD) (x : Xf) : sProp 𝕄 := iprop(dn c x false ∗ dn c x true)

/-- The waits at both ends of a transfer, while only later hops are still owed: what was lent comes back, and what was
    to land has. -/
theorem wp_pair (x : Xf) (l : List Xf) (hl : ∀ y ∈ l, hop x.2 < hop y.2) {s₁ s₂ : DmaSem sig} (h₁ : s₁ = xs x false) (h₂ : s₂ = xs x true)
    {sp₁ sp₁' sp₂ sp₂' : Space} {t₁ t₁' t₂ t₂' : Shape} {e₁ e₁' e₂ e₂' : EltTy}
    {src₁ : Memref sig .tc sp₁' t₁' e₁'} {dst₁ : Memref sig .tc sp₁ t₁ e₁} {src₂ : Memref sig .tc sp₂' t₂' e₂'} {dst₂ : Memref sig .tc sp₂ t₂ e₂}
    {a₁ : src₁.view.WordExact} {b₁ : dst₁.view.WordExact} {a₂ : src₂.view.WordExact} {b₂ : dst₂.view.WordExact}
    (hN₁ : dst₁.view.dmaCredit = amt x.2) (hN₂ : dst₂.view.dmaCredit = amt x.2)
    {k : PUnit → Prog (TpuEff nD τ sig (Elt F) Λ₀ .tc) α} :
    iprop(records m K ∗ levAts L lv ∗ fly c x false ∗ fly c x true ∗ ow c (Ox c l))
      ⊢ iprop((iprop(fin2 c x ∗ sendPay m x c ∗ recvPay m x c ∗ ow c (Ox c l))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s₁ src₁ dst₁ a₁ b₁) fun _ => .op (.waitDma2 s₂ src₂ dst₂ a₂ b₂) k) Q) := by
  iintro ⟨#HR, #Hlev, H1, H2, HO⟩ Hk
  iapply (wp_dma m K c x false l (fun y hy => by rw [lv_send]; omega) h₁ hN₁) $$ [H1 HO]
  · isplitr; · iexact HR
    isplitr; · iexact Hlev
    isplitl [H1]; · iexact H1
    iexact HO
  iintro ⟨Hd1, Hs, HO⟩
  iapply (wp_dma m K c x true l (fun y hy => by rw [lv_recv]; have := hl y hy; omega) h₂ hN₂) $$ [H2 HO]
  · isplitr; · iexact HR
    isplitr; · iexact Hlev
    isplitl [H2]; · iexact H2
    iexact HO
  iintro ⟨Hd2, Hr, HO⟩
  iapply Hk
  isplitl [Hd1 Hd2]
  · isplitl [Hd1]; · iexact Hd1
    iexact Hd2
  isplitl [Hs]; · iexact Hs
  isplitl [Hr]; · iexact Hr
  iexact HO

/-- A device's own product is stored: the loads of its two blocks and the store. -/
theorem wp_own {q q' : PosShare TreeShare} {f : Buf (Elt F) (oM.view.loc (c : Thread nD τ))} {Ls : List (Piece (Elt F) S4096x512 .f32)}
    {hi : ∀ a, (![0, 0] : Fin 2 → Nat) a + S1024x4096.size a ≤ S1024x4096.size a}
    {hl : xM.view.LoadsAt (Rect.unit (s := S1024x4096) ![0, 0] S1024x4096.size hi).toLoadRect}
    {hi' : ∀ a, (![0, 0] : Fin 2 → Nat) a + S4096x512.size a ≤ S4096x512.size a}
    {hl' : wM.view.LoadsAt (Rect.unit (s := S4096x512) ![0, 0] S4096x512.size hi').toLoadRect}
    {r : LoadRect S4096x512} {hr : oM.view.LoadsAt r}
    {R : Rect S4096x512} {w : Vec F S1024x4096 .bf16 → Vec F S4096x512 .bf16 → R.shape.Idx → Elt F .f32} {hx : (oM.access R).Stores Finset.univ} {hm}
    (hp : pieceO m c = ⟨R, w (xstg m c) (wstg m c)⟩)
    {k : PUnit → Prog (TpuEff nD τ sig (Elt F) Λ₀ .tc) α} :
    iprop((xM.view.loc (c : Thread nD τ) ↦{q} xstg m c) ∗ (wM.view.loc (c : Thread nD τ) ↦{q'} wstg m c) ∗ oPts c f Ls)
      ⊢ iprop((iprop((xM.view.loc (c : Thread nD τ) ↦{q} xstg m c) ∗ (wM.view.loc (c : Thread nD τ) ↦{q'} wstg m c) ∗ oPts c f (pieceO m c :: Ls))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load xM (Rect.unit (s := S1024x4096) ![0, 0] S1024x4096.size hi).toLoadRect hl) fun v =>
                .op (.load wM (Rect.unit (s := S4096x512) ![0, 0] S4096x512.size hi').toLoadRect hl') fun v' =>
                  .op (.load oM r hr) fun _ => .op (.store oM R (w v v') Finset.univ hx hm) k) Q) := by
  iintro ⟨Hx, Hw, Ho⟩ Hk
  iapply (wp_getX m c) $$ Hx; iintro Hx
  iapply (wp_getW m c) $$ Hw; iintro Hw
  iapply (wp_peek c) $$ Ho; iintro Ho %v
  iapply (wp_put c (pieceO m c) hp) $$ Ho; iintro Ho
  iapply Hk
  isplitl [Hx]; · iexact Hx
  isplitl [Hw]; · iexact Hw
  iexact Ho

/-- A first or second slot's product is stored: the loads of the slot and of the block of `w_mat`, and the store. -/
theorem wp_slot (d : Bool) (h : Fin 2) {q q' : PosShare TreeShare} {f : Buf (Elt F) (oM.view.loc (c : Thread nD τ))} {Ls : List (Piece (Elt F) S4096x512 .f32)}
    {hl : (cM d).view.LoadsAt (bigR h.castSucc).toLoadRect}
    {hi' : ∀ a, (![0, 0] : Fin 2 → Nat) a + S4096x512.size a ≤ S4096x512.size a}
    {hl' : wM.view.LoadsAt (Rect.unit (s := S4096x512) ![0, 0] S4096x512.size hi').toLoadRect}
    {r : LoadRect S4096x512} {hr : oM.view.LoadsAt r}
    {R : Rect S4096x512} {w : Vec F S1x512x4096 .bf16 → Vec F S4096x512 .bf16 → R.shape.Idx → Elt F .f32} {hx : (oM.access R).Stores Finset.univ} {hm}
    (hp : pieceB m d h c = ⟨R, w (slotV m d h.castSucc c) (wstg m c)⟩)
    {k : PUnit → Prog (TpuEff nD τ sig (Elt F) Λ₀ .tc) α} :
    iprop(cPts d c (bigR h.castSucc) q (cont m d c) ∗ (wM.view.loc (c : Thread nD τ) ↦{q'} wstg m c) ∗ oPts c f Ls)
      ⊢ iprop((iprop(cPts d c (bigR h.castSucc) q (cont m d c) ∗ (wM.view.loc (c : Thread nD τ) ↦{q'} wstg m c) ∗ oPts c f (pieceB m d h c :: Ls))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load (cM d) (bigR h.castSucc).toLoadRect hl) fun v =>
                .op (.load wM (Rect.unit (s := S4096x512) ![0, 0] S4096x512.size hi').toLoadRect hl') fun v' =>
                  .op (.load oM r hr) fun _ => .op (.store oM R (w v v') Finset.univ hx hm) k) Q) := by
  iintro ⟨Hx, Hw, Ho⟩ Hk
  iapply (wp_getB m c d h.castSucc) $$ Hx; iintro Hx
  iapply (wp_getW m c) $$ Hw; iintro Hw
  iapply (wp_peek c) $$ Ho; iintro Ho %v
  iapply (wp_put c (pieceB m d h c) hp) $$ Ho; iintro Ho
  iapply Hk
  isplitl [Hx]; · iexact Hx
  isplitl [Hw]; · iexact Hw
  iexact Ho

/-- A quarter of the last hop: the waits at both its ends, the load of what landed and of the block of `w_mat`, and the
    store of the product. -/
theorem wp_quarter (d : Bool) (s : Fin 4) (j : Fin 6) (hj : landR j = smallR 2 s) {s₁ s₂ : DmaSem sig} (h₁ : s₁ = xs (d, j) false) (h₂ : s₂ = xs (d, j) true)
    {sp₁ sp₁' sp₂ sp₂' : Space} {t₁ t₁' t₂ t₂' : Shape} {e₁ e₁' e₂ e₂' : EltTy}
    {src₁ : Memref sig .tc sp₁' t₁' e₁'} {dst₁ : Memref sig .tc sp₁ t₁ e₁} {src₂ : Memref sig .tc sp₂' t₂' e₂'} {dst₂ : Memref sig .tc sp₂ t₂ e₂}
    {a₁ : src₁.view.WordExact} {b₁ : dst₁.view.WordExact} {a₂ : src₂.view.WordExact} {b₂ : dst₂.view.WordExact}
    (hN₁ : dst₁.view.dmaCredit = amt j) (hN₂ : dst₂.view.dmaCredit = amt j)
    {q' : PosShare TreeShare} {f : Buf (Elt F) (oM.view.loc (c : Thread nD τ))} {Ls : List (Piece (Elt F) S4096x512 .f32)}
    {hl : (cM d).view.LoadsAt (smallR 2 s).toLoadRect}
    {hi' : ∀ a, (![0, 0] : Fin 2 → Nat) a + S4096x512.size a ≤ S4096x512.size a}
    {hl' : wM.view.LoadsAt (Rect.unit (s := S4096x512) ![0, 0] S4096x512.size hi').toLoadRect}
    {r : Vec F S1x128x4096 .bf16 → Vec F S4096x512 .bf16 → LoadRect S4096x512} {hr : ∀ v v', oM.view.LoadsAt (r v v')}
    {R : Vec F S1x128x4096 .bf16 → Vec F S4096x512 .bf16 → Rect S4096x512} {w : ∀ v v', (R v v').shape.Idx → Elt F .f32}
    {hx : ∀ v v', (oM.access (R v v')).Stores Finset.univ} {hm : ∀ v v', Finset.univ = Finset.univ ∨ ∀ a, (R v v').stride a = 1}
    (hp : pieceS m d s c = ⟨R (quartV m d s c) (wstg m c), w (quartV m d s c) (wstg m c)⟩)
    {k : PUnit → Prog (TpuEff nD τ sig (Elt F) Λ₀ .tc) α} :
    iprop(records m K ∗ levAts L lv ∗ fly c (d, j) false ∗ fly c (d, j) true ∗ ow c (Ox c [])
        ∗ (wM.view.loc (c : Thread nD τ) ↦{q'} wstg m c) ∗ oPts c f Ls)
      ⊢ iprop((iprop(fin2 c (d, j) ∗ sendPay m (d, j) c ∗ recvPay m (d, j) c ∗ ow c (Ox c [])
              ∗ (wM.view.loc (c : Thread nD τ) ↦{q'} wstg m c) ∗ oPts c f (pieceS m d s c :: Ls))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s₁ src₁ dst₁ a₁ b₁) fun _ => .op (.waitDma2 s₂ src₂ dst₂ a₂ b₂) fun _ =>
                .op (.load (cM d) (smallR 2 s).toLoadRect hl) fun v =>
                  .op (.load wM (Rect.unit (s := S4096x512) ![0, 0] S4096x512.size hi').toLoadRect hl') fun v' =>
                    .op (.load oM (r v v') (hr v v')) fun _ => .op (.store oM (R v v') (w v v') Finset.univ (hx v v') (hm v v')) k) Q) := by
  iintro ⟨#HR, #Hlev, H1, H2, HO, Hw, Ho⟩ Hk
  iapply (wp_pair m K c (d, j) [] (fun y hy => absurd hy List.not_mem_nil) h₁ h₂ hN₁ hN₂) $$ [H1 H2 HO]
  · isplitr; · iexact HR
    isplitr; · iexact Hlev
    isplitl [H1]; · iexact H1
    isplitl [H2]; · iexact H2
    iexact HO
  iintro ⟨Hd, Hs, Hr, HO⟩
  unfold recvPay
  rw [show (landR (d, j).2) = smallR 2 s from hj]
  iapply (wp_getS m c d s) $$ Hr; iintro Hr
  iapply (wp_getW m c) $$ Hw; iintro Hw
  iapply (wp_peek c) $$ Ho; iintro Ho %v
  iapply (wp_put c (pieceS m d s c) hp) $$ Ho; iintro Ho
  iapply Hk
  isplitl [Hd]; · iexact Hd
  isplitl [Hs]; · iexact Hs
  isplitl [Hr]; · iexact Hr
  isplitl [HO]; · iexact HO
  isplitl [Hw]; · iexact Hw
  iexact Ho

end Stretch

/-! ## Shares given out and brought together -/

section Shares

omit [FloatOps F] in
/-- Elements owned in full are owned in two halves. -/
theorem halves {ℓ : Loc nD τ sig} {I : Finset (Idx ℓ)} {f : Buf (Elt F) ℓ} :
    (ℓ ↦[I]{fullShare} f : sProp 𝕄) = iprop((ℓ ↦[I]{fullShare.left} f) ∗ (ℓ ↦[I]{fullShare.right} f)) :=
  Entails.antisymm (pointsTo_share (PosShare.mem_left_op_right fullShare)).1 (pointsTo_share (PosShare.mem_left_op_right fullShare)).2

variable (c : Dev nD) (d : Bool)

omit [FloatOps F] in
/-- A window owned in full is two halves of its share: one to lend, one to read by. -/
theorem cPts_halves (r : Rect S3x512x4096) (f : Buf (Elt F) ((cM d).view.loc (c : Thread nD τ))) :
    cPts d c r fullShare f = iprop(cPts d c r fullShare.left f ∗ cPts d c r fullShare.right f) :=
  halves

omit [FloatOps F] in
/-- A landing buffer is its six landing windows. -/
theorem land_six (q : PosShare TreeShare) (f : Buf (Elt F) ((cM d).view.loc (c : Thread nD τ))) :
    ((cM d).view.loc (c : Thread nD τ) ↦{q} f : sProp 𝕄)
      = iprop(cPts d c (bigR 0) q f ∗ cPts d c (bigR 1) q f ∗ cPts d c (smallR 2 0) q f ∗ cPts d c (smallR 2 1) q f
          ∗ cPts d c (smallR 2 2) q f ∗ cPts d c (smallR 2 3) q f) := by
  rw [land_split, bigSep_univ_eq_bigSepL [0, 1, 2, 3, 4, 5] (by decide) (by decide)]; rfl

/-- The second slot's lent half is what the four transfers of the third hop lend. -/
theorem second_four :
    cPts d c (bigR 1) fullShare.left (cont m d c)
      = iprop(sendPay m (d, 2) c ∗ sendPay m (d, 3) c ∗ sendPay m (d, 4) c ∗ sendPay m (d, 5) c) := by
  rw [quarter_split, bigSep_univ_eq_bigSepL [0, 1, 2, 3] (by decide) (by decide)]; rfl

/-- What lands in the first slot is what the second hop lends and a half share to read by. -/
theorem first_slot :
    recvPay m (d, 0) c = iprop(sendPay m (d, 1) c ∗ cPts d c (bigR 0) fullShare.right (cont m d c)) :=
  cPts_halves c d (bigR 0) _

/-- What lands in the second slot is what the third hop's transfers lend and a half share to read by. -/
theorem second_slot :
    recvPay m (d, 1) c = iprop((sendPay m (d, 2) c ∗ sendPay m (d, 3) c ∗ sendPay m (d, 4) c ∗ sendPay m (d, 5) c)
      ∗ cPts d c (bigR 1) fullShare.right (cont m d c)) := by
  rw [← second_four]; exact cPts_halves c d (bigR 1) _

/-- The staged block of `x` is what the two first hops lend and a half share to read by. -/
theorem x_shares :
    (xM.view.loc (c : Thread nD τ) ↦{fullShare} xstg m c : sProp 𝕄)
      = iprop((sendPay m (false, 0) c ∗ sendPay m (true, 0) c) ∗ (xM.view.loc (c : Thread nD τ) ↦{fullShare.right} xstg m c)) := by
  rw [show (xM.view.loc (c : Thread nD τ) ↦{fullShare} xstg m c : sProp 𝕄)
      = iprop((xM.view.loc (c : Thread nD τ) ↦{fullShare.left} xstg m c) ∗ (xM.view.loc (c : Thread nD τ) ↦{fullShare.right} xstg m c))
      from halves, half_split, bigSep_univ_eq_bigSepL [false, true] (by decide) (by decide)]
  rfl

/-- What the transfers of a direction lent and what landed make the landing buffer, whole. -/
theorem rejoin :
    iprop((sendPay m (d, 1) c ∗ cPts d c (bigR 0) fullShare.right (cont m d c))
        ∗ ((sendPay m (d, 2) c ∗ sendPay m (d, 3) c ∗ sendPay m (d, 4) c ∗ sendPay m (d, 5) c) ∗ cPts d c (bigR 1) fullShare.right (cont m d c))
        ∗ recvPay m (d, 2) c ∗ recvPay m (d, 3) c ∗ recvPay m (d, 4) c ∗ recvPay m (d, 5) c)
      ⊢ ((cM d).view.loc (c : Thread nD τ) ↦{fullShare} cont m d c : sProp 𝕄) := by
  rw [land_six, ← second_slot, ← first_slot]
  exact Entails.refl _

omit [FloatOps F] in
/-- Every cell of a device waited out, from the barrier's and the transfers'. -/
theorem collect :
    iprop(atPos ER (barCell c) 1 ∅ 0 ∗ bigSep Finset.univ fun x : Xf => (fin2 c x : sProp 𝕄))
      ⊢ bigSep Finset.univ fun k : CI => (atPos ER (kcell (c, k)) 1 ∅ 0 : sProp 𝕄) := by
  rw [bigSep_univ_sum, bigSep_univ_of_subsingleton (), bigSep_univ_prod (α := Xf) (β := Bool)]
  refine sep_mono_right (bigSep_mono fun x _ => ?_)
  rw [bigSep_univ_eq_bigSepL [false, true] (by decide) (by decide)]
  exact Entails.refl _

end Shares

end Cert.KernelIdeal.Ring

end
-- ==== Proof.KernelIdeal.Body.lean ====
/-
The kernel's body, run once at a device `c` that stays a variable.
-/
module

public import proofs.«01_k».proof.Proof.KernelIdeal.Stretch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.View (Piece)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What a device starts the body with beside its buffers: its duties, its positions and the credits it is to spend. -/
def ready (c : Dev nD) : sProp 𝕄 :=
  iprop((dutyTok ER (barCell (tgt true c)) 0 false ∗ dutyTok ER (barCell (tgt false c)) 0 true)
    ∗ atPos ER (barCell c) 0 ∅ 0 ∗ cred (tallyAt (barCell c) () 2) ∗ bigSep Finset.univ fun x : Xf => rdy c x)

/-- What the body leaves on a device. -/
def bodyEnd (c : Dev nD) : sProp 𝕄 :=
  iprop((xM.view.loc (c : Thread nD τ) ↦{fullShare} xstg m c) ∗ (wM.view.loc (c : Thread nD τ) ↦{fullShare} wstg m c)
    ∗ (∃ f, oPts c f (pieces m c))
    ∗ ((cM false).view.loc (c : Thread nD τ) ↦{fullShare} cont m false c) ∗ ((cM true).view.loc (c : Thread nD τ) ↦{fullShare} cont m true c)
    ∗ ow c (0 : CellTallies nD τ sig Unit) ∗ bigSep Finset.univ fun k : CI => semVal (kcell (c, k)) 0)

omit [FloatOps F] in
/-- Conjunctions over the transfers, in the order they are sent. -/
theorem bigSep_order (Φ : Xf → sProp 𝕄) : bigSep Finset.univ Φ
    = iprop(Φ (false, 0) ∗ Φ (true, 0) ∗ Φ (false, 1) ∗ Φ (true, 1) ∗ Φ (false, 2) ∗ Φ (true, 2) ∗ Φ (false, 3) ∗ Φ (true, 3)
        ∗ Φ (false, 4) ∗ Φ (true, 4) ∗ Φ (false, 5) ∗ Φ (true, 5)) :=
  bigSep_univ_eq_bigSepL order (by decide) (by decide) Φ

set_option maxRecDepth 65536 in
set_option maxHeartbeats 4000000 in
/-- The body of device `c`, effect by effect: from its duties, its positions, its landing buffers and its staged blocks to
    the result's buffer with every store in it, the landing buffers filled, nothing owed and every counter at zero. -/
theorem body_run (K : Dev nD × CI → ℕ) (c : Dev nD) (f : Buf (Elt F) (oM.view.loc (c : Thread nD τ))) (Kt : PUnit → sProp (MT nD τ sig Unit (Elt F) ℕ UU ℕ)) :
    iprop(records m K ∗ levAts L lv ∗ ready c
        ∗ (∃ f, (cM false).view.loc (c : Thread nD τ) ↦{fullShare} f) ∗ (∃ f, (cM true).view.loc (c : Thread nD τ) ↦{fullShare} f)
        ∗ ow c (O₀ c) ∗ (xM.view.loc (c : Thread nD τ) ↦{fullShare} xstg m c) ∗ (wM.view.loc (c : Thread nD τ) ↦{fullShare} wstg m c)
        ∗ oPts c f [])
      ⊢ iprop((bodyEnd m c -∗ Kt ⟨⟩)
          -∗ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_scratch0) (Memref.isWhole_whole _)
              (Memref.whole cc0_scratch1) (Memref.isWhole_whole _) cc0_scratch2 cc0_scratch3 cc0_scratch4 cc0_scratch5
              cc0_scratch6 cc0_scratch7 cc0_scratch8 cc0_scratch9) Kt) := by
  rw [cc0_body_eq_skeleton]; unfold cc0_body_skel
  simp only [k0_part19_eq_skeleton, k0_part19_skel, k0_part1_eq_skeleton, k0_part1_skel]
  simp only [semSignalWord, semWaitWord, Prog.lift, Prog.bind_op, Prog.bind_ret, Prog.pure_eq_ret, wp_deviceId]
  unfold ready
  rw [bigSep_order]
  iintro ⟨#HR, #Hlev, ⟨⟨Ht1, Ht2⟩, Hat, Hc, R0, L0, R1, L1, R2, L2, R3, L3, R4, L4, R5, L5⟩, HcR, HcL, HO, Hx, Hw, Hout⟩ Hk
  unfold O₀
  -- the two signals, each with the landing buffer the neighbour is to fill
  iapply (wp_sig m K c false _ (dev1_eq c) (by decide)) $$ [HO Ht1 HcR]
  · isplitr; · iexact HR
    isplitl [HO]; · iexact HO
    isplitl [Ht1]; · iexact Ht1
    iexact HcR
  iintro HO
  iapply (wp_sig m K c true _ (dev2_eq c) (by decide)) $$ [HO Ht2 HcL]
  · isplitr; · iexact HR
    isplitl [HO]; · iexact HO
    isplitl [Ht2]; · iexact Ht2
    iexact HcL
  iintro HO
  -- the wait for both neighbours' buffers
  iapply (wp_barrier m K c order (by decide) (by decide)) $$ [Hc Hat HO]
  · isplitr; · iexact HR
    isplitr; · iexact Hlev
    isplitl [Hc]; · iexact Hc
    isplitl [Hat]; · iexact Hat
    iexact HO
  unfold barPay
  iintro ⟨Hat, ⟨%fR, HbR⟩, ⟨%fL, HbL⟩, HO⟩
  ihave HbR := (Entails.of_eq (land_six (tgt false c) false fullShare fR)) $$ HbR
  ihave HbL := (Entails.of_eq (land_six (tgt true c) true fullShare fL)) $$ HbL
  icases HbR with ⟨DR0, DR1, DR2, DR3, DR4, DR5⟩
  icases HbL with ⟨DL0, DL1, DL2, DL3, DL4, DL5⟩
  -- the first hops, lending half the share of the device's rows
  ihave Hx := (Entails.of_eq (x_shares m c)) $$ Hx
  icases Hx with ⟨⟨SR0, SL0⟩, Hx⟩
  simp only [k0_part2_eq_skeleton, k0_part2_skel]
  simp only [Prog.lift, Prog.bind_op, Prog.bind_ret, Prog.pure_eq_ret]
  iapply (wp_hop0 m K c false _ fR (dev3_eq c) (by rfl) (by rfl)) $$ [R0 SR0 DR0 HO]
  · isplitr; · iexact HR
    isplitl [R0]; · iexact R0
    isplitl [SR0]; · iexact SR0
    isplitl [DR0]; · iexact DR0
    iexact HO
  iintro ⟨FR0, VR0, HO⟩
  iapply (wp_hop0 m K c true _ fL (dev4_eq c) (by rfl) (by rfl)) $$ [L0 SL0 DL0 HO]
  · isplitr; · iexact HR
    isplitl [L0]; · iexact L0
    isplitl [SL0]; · iexact SL0
    isplitl [DL0]; · iexact DL0
    iexact HO
  iintro ⟨FL0, VL0, HO⟩
  -- the device's own rows
  iapply (wp_own m c (by rfl)) $$ [Hx Hw Hout]
  · isplitl [Hx]; · iexact Hx
    isplitl [Hw]; · iexact Hw
    iexact Hout
  iintro ⟨Hx, Hw, Hout⟩
  simp only [k0_part3_eq_skeleton, k0_part3_skel]
  simp only [Prog.lift, Prog.bind_op, Prog.bind_ret, Prog.pure_eq_ret]
  iapply (wp_pair m K c (false, 0) (order.drop 2) (by decide) (by rfl) (by rfl) (by rfl) (by rfl)) $$ [FR0 VR0 HO]
  · isplitr; · iexact HR
    isplitr; · iexact Hlev
    isplitl [FR0]; · iexact FR0
    isplitl [VR0]; · iexact VR0
    iexact HO
  iintro ⟨NR0, SR0, PR0, HO⟩
  iapply (wp_pair m K c (true, 0) (order.drop 2) (by decide) (by rfl) (by rfl) (by rfl) (by rfl)) $$ [FL0 VL0 HO]
  · isplitr; · iexact HR
    isplitr; · iexact Hlev
    isplitl [FL0]; · iexact FL0
    isplitl [VL0]; · iexact VL0
    iexact HO
  iintro ⟨NL0, SL0, PL0, HO⟩
  -- the second hops, and the products of the first slots
  ihave PR0 := (Entails.of_eq (first_slot m c false)) $$ PR0
  icases PR0 with ⟨SR1, GR0⟩
  ihave PL0 := (Entails.of_eq (first_slot m c true)) $$ PL0
  icases PL0 with ⟨SL1, GL0⟩
  simp only [k0_part4_eq_skeleton, k0_part4_skel]
  simp only [Prog.lift, Prog.bind_op, Prog.bind_ret, Prog.pure_eq_ret]
  iapply (wp_hop1 m K c false _ fR (dev5_eq c) (by rfl) (by rfl)) $$ [R1 SR1 DR1 HO]
  · isplitr; · iexact HR
    isplitl [R1]; · iexact R1
    isplitl [SR1]; · iexact SR1
    isplitl [DR1]; · iexact DR1
    iexact HO
  iintro ⟨FR1, VR1, HO⟩
  iapply (wp_hop1 m K c true _ fL (dev6_eq c) (by rfl) (by rfl)) $$ [L1 SL1 DL1 HO]
  · isplitr; · iexact HR
    isplitl [L1]; · iexact L1
    isplitl [SL1]; · iexact SL1
    isplitl [DL1]; · iexact DL1
    iexact HO
  iintro ⟨FL1, VL1, HO⟩
  simp only [k0_part5_eq_skeleton, k0_part5_skel, k0_part6_eq_skeleton, k0_part6_skel]
  simp only [Prog.lift, Prog.bind_op, Prog.bind_ret, Prog.pure_eq_ret]
  iapply (wp_slot m c false 0 (by rfl)) $$ [GR0 Hw Hout]
  · isplitl [GR0]; · iexact GR0
    isplitl [Hw]; · iexact Hw
    iexact Hout
  iintro ⟨GR0, Hw, Hout⟩
  iapply (wp_slot m c true 0 (by rfl)) $$ [GL0 Hw Hout]
  · isplitl [GL0]; · iexact GL0
    isplitl [Hw]; · iexact Hw
    iexact Hout
  iintro ⟨GL0, Hw, Hout⟩
  simp only [k0_part7_eq_skeleton, k0_part7_skel]
  simp only [Prog.lift, Prog.bind_op, Prog.bind_ret, Prog.pure_eq_ret]
  iapply (wp_pair m K c (false, 1) (order.drop 4) (by decide) (by rfl) (by rfl) (by rfl) (by rfl)) $$ [FR1 VR1 HO]
  · isplitr; · iexact HR
    isplitr; · iexact Hlev
    isplitl [FR1]; · iexact FR1
    isplitl [VR1]; · iexact VR1
    iexact HO
  iintro ⟨NR1, SR1, PR1, HO⟩
  iapply (wp_pair m K c (true, 1) (order.drop 4) (by decide) (by rfl) (by rfl) (by rfl) (by rfl)) $$ [FL1 VL1 HO]
  · isplitr; · iexact HR
    isplitr; · iexact Hlev
    isplitl [FL1]; · iexact FL1
    isplitl [VL1]; · iexact VL1
    iexact HO
  iintro ⟨NL1, SL1, PL1, HO⟩
  -- the third hops, a quarter at a time
  ihave PR1 := (Entails.of_eq (second_slot m c false)) $$ PR1
  icases PR1 with ⟨⟨SR2, SR3, SR4, SR5⟩, GR1⟩
  ihave PL1 := (Entails.of_eq (second_slot m c true)) $$ PL1
  icases PL1 with ⟨⟨SL2, SL3, SL4, SL5⟩, GL1⟩
  iapply (wp_hop2 m K c false _ fR 2 (by decide) 0 rfl (dev7_eq c) (by rfl) (by rfl)) $$ [R2 SR2 DR2 HO]
  · isplitr; · iexact HR
    isplitl [R2]; · iexact R2
    isplitl [SR2]; · iexact SR2
    isplitl [DR2]; · iexact DR2
    iexact HO
  iintro ⟨FR2, VR2, HO⟩
  iapply (wp_hop2 m K c true _ fL 2 (by decide) 0 rfl (dev8_eq c) (by rfl) (by rfl)) $$ [L2 SL2 DL2 HO]
  · isplitr; · iexact HR
    isplitl [L2]; · iexact L2
    isplitl [SL2]; · iexact SL2
    isplitl [DL2]; · iexact DL2
    iexact HO
  iintro ⟨FL2, VL2, HO⟩
  simp only [k0_part8_eq_skeleton, k0_part8_skel]
  simp only [Prog.lift, Prog.bind_op, Prog.bind_ret, Prog.pure_eq_ret]
  iapply (wp_hop2 m K c false _ fR 3 (by decide) 1 rfl (dev9_eq c) (by rfl) (by rfl)) $$ [R3 SR3 DR3 HO]
  · isplitr; · iexact HR
    isplitl [R3]; · iexact R3
    isplitl [SR3]; · iexact SR3
    isplitl [DR3]; · iexact DR3
    iexact HO
  iintro ⟨FR3, VR3, HO⟩
  iapply (wp_hop2 m K c true _ fL 3 (by decide) 1 rfl (dev10_eq c) (by rfl) (by rfl)) $$ [L3 SL3 DL3 HO]
  · isplitr; · iexact HR
    isplitl [L3]; · iexact L3
    isplitl [SL3]; · iexact SL3
    isplitl [DL3]; · iexact DL3
    iexact HO
  iintro ⟨FL3, VL3, HO⟩
  iapply (wp_hop2 m K c false _ fR 4 (by decide) 2 rfl (dev11_eq c) (by rfl) (by rfl)) $$ [R4 SR4 DR4 HO]
  · isplitr; · iexact HR
    isplitl [R4]; · iexact R4
    isplitl [SR4]; · iexact SR4
    isplitl [DR4]; · iexact DR4
    iexact HO
  iintro ⟨FR4, VR4, HO⟩
  simp only [k0_part9_eq_skeleton, k0_part9_skel]
  simp only [Prog.lift, Prog.bind_op, Prog.bind_ret, Prog.pure_eq_ret]
  iapply (wp_hop2 m K c true _ fL 4 (by decide) 2 rfl (dev12_eq c) (by rfl) (by rfl)) $$ [L4 SL4 DL4 HO]
  · isplitr; · iexact HR
    isplitl [L4]; · iexact L4
    isplitl [SL4]; · iexact SL4
    isplitl [DL4]; · iexact DL4
    iexact HO
  iintro ⟨FL4, VL4, HO⟩
  iapply (wp_hop2 m K c false _ fR 5 (by decide) 3 rfl (dev13_eq c) (by rfl) (by rfl)) $$ [R5 SR5 DR5 HO]
  · isplitr; · iexact HR
    isplitl [R5]; · iexact R5
    isplitl [SR5]; · iexact SR5
    isplitl [DR5]; · iexact DR5
    iexact HO
  iintro ⟨FR5, VR5, HO⟩
  simp only [k0_part10_eq_skeleton, k0_part10_skel]
  simp only [Prog.lift, Prog.bind_op, Prog.bind_ret, Prog.pure_eq_ret]
  iapply (wp_hop2 m K c true _ fL 5 (by decide) 3 rfl (dev14_eq c) (by rfl) (by rfl)) $$ [L5 SL5 DL5 HO]
  · isplitr; · iexact HR
    isplitl [L5]; · iexact L5
    isplitl [SL5]; · iexact SL5
    isplitl [DL5]; · iexact DL5
    iexact HO
  iintro ⟨FL5, VL5, HO⟩
  -- the products of the second slots
  simp only [k0_part11_eq_skeleton, k0_part11_skel]
  simp only [Prog.lift, Prog.bind_op, Prog.bind_ret, Prog.pure_eq_ret]
  iapply (wp_slot m c false 1 (by rfl)) $$ [GR1 Hw Hout]
  · isplitl [GR1]; · iexact GR1
    isplitl [Hw]; · iexact Hw
    iexact Hout
  iintro ⟨GR1, Hw, Hout⟩
  iapply (wp_slot m c true 1 (by rfl)) $$ [GL1 Hw Hout]
  · isplitl [GL1]; · iexact GL1
    isplitl [Hw]; · iexact Hw
    iexact Hout
  iintro ⟨GL1, Hw, Hout⟩
  -- the products of the last slots' quarters, as they land
  simp only [k0_part12_eq_skeleton, k0_part12_skel]
  simp only [Prog.lift, Prog.bind_op, Prog.bind_ret, Prog.pure_eq_ret]
  iapply (wp_quarter m K c false 0 2 (by rfl) (by rfl) (by rfl) (by rfl) (by rfl) (by rfl)) $$ [FR2 VR2 HO Hw Hout]
  · isplitr; · iexact HR
    isplitr; · iexact Hlev
    isplitl [FR2]; · iexact FR2
    isplitl [VR2]; · iexact VR2
    isplitl [HO]; · iexact HO
    isplitl [Hw]; · iexact Hw
    iexact Hout
  iintro ⟨NR2, SR2, PR2, HO, Hw, Hout⟩
  simp only [k0_part13_eq_skeleton, k0_part13_skel]
  simp only [Prog.lift, Prog.bind_op, Prog.bind_ret, Prog.pure_eq_ret]
  iapply (wp_quarter m K c true 0 2 (by rfl) (by rfl) (by rfl) (by rfl) (by rfl) (by rfl)) $$ [FL2 VL2 HO Hw Hout]
  · isplitr; · iexact HR
    isplitr; · iexact Hlev
    isplitl [FL2]; · iexact FL2
    isplitl [VL2]; · iexact VL2
    isplitl [HO]; · iexact HO
    isplitl [Hw]; · iexact Hw
    iexact Hout
  iintro ⟨NL2, SL2, PL2, HO, Hw, Hout⟩
  simp only [k0_part14_eq_skeleton, k0_part14_skel]
  simp only [Prog.lift, Prog.bind_op, Prog.bind_ret, Prog.pure_eq_ret]
  iapply (wp_quarter m K c false 1 3 (by rfl) (by rfl) (by rfl) (by rfl) (by rfl) (by rfl)) $$ [FR3 VR3 HO Hw Hout]
  · isplitr; · iexact HR
    isplitr; · iexact Hlev
    isplitl [FR3]; · iexact FR3
    isplitl [VR3]; · iexact VR3
    isplitl [HO]; · iexact HO
    isplitl [Hw]; · iexact Hw
    iexact Hout
  iintro ⟨NR3, SR3, PR3, HO, Hw, Hout⟩
  simp only [k0_part15_eq_skeleton, k0_part15_skel]
  simp only [Prog.lift, Prog.bind_op, Prog.bind_ret, Prog.pure_eq_ret]
  iapply (wp_quarter m K c true 1 3 (by rfl) (by rfl) (by rfl) (by rfl) (by rfl) (by rfl)) $$ [FL3 VL3 HO Hw Hout]
  · isplitr; · iexact HR
    isplitr; · iexact Hlev
    isplitl [FL3]; · iexact FL3
    isplitl [VL3]; · iexact VL3
    isplitl [HO]; · iexact HO
    isplitl [Hw]; · iexact Hw
    iexact Hout
  iintro ⟨NL3, SL3, PL3, HO, Hw, Hout⟩
  simp only [k0_part16_eq_skeleton, k0_part16_skel]
  simp only [Prog.lift, Prog.bind_op, Prog.bind_ret, Prog.pure_eq_ret]
  iapply (wp_quarter m K c false 2 4 (by rfl) (by rfl) (by rfl) (by rfl) (by rfl) (by rfl)) $$ [FR4 VR4 HO Hw Hout]
  · isplitr; · iexact HR
    isplitr; · iexact Hlev
    isplitl [FR4]; · iexact FR4
    isplitl [VR4]; · iexact VR4
    isplitl [HO]; · iexact HO
    isplitl [Hw]; · iexact Hw
    iexact Hout
  iintro ⟨NR4, SR4, PR4, HO, Hw, Hout⟩
  simp only [k0_part17_eq_skeleton, k0_part17_skel]
  simp only [Prog.lift, Prog.bind_op, Prog.bind_ret, Prog.pure_eq_ret]
  iapply (wp_quarter m K c true 2 4 (by rfl) (by rfl) (by rfl) (by rfl) (by rfl) (by rfl)) $$ [FL4 VL4 HO Hw Hout]
  · isplitr; · iexact HR
    isplitr; · iexact Hlev
    isplitl [FL4]; · iexact FL4
    isplitl [VL4]; · iexact VL4
    isplitl [HO]; · iexact HO
    isplitl [Hw]; · iexact Hw
    iexact Hout
  iintro ⟨NL4, SL4, PL4, HO, Hw, Hout⟩
  simp only [k0_part18_eq_skeleton, k0_part18_skel]
  simp only [Prog.lift, Prog.bind_op, Prog.bind_ret, Prog.pure_eq_ret]
  iapply (wp_quarter m K c false 3 5 (by rfl) (by rfl) (by rfl) (by rfl) (by rfl) (by rfl)) $$ [FR5 VR5 HO Hw Hout]
  · isplitr; · iexact HR
    isplitr; · iexact Hlev
    isplitl [FR5]; · iexact FR5
    isplitl [VR5]; · iexact VR5
    isplitl [HO]; · iexact HO
    isplitl [Hw]; · iexact Hw
    iexact Hout
  iintro ⟨NR5, SR5, PR5, HO, Hw, Hout⟩
  dsimp only
  iapply (wp_quarter m K c true 3 5 (by rfl) (by rfl) (by rfl) (by rfl) (by rfl) (by rfl)) $$ [FL5 VL5 HO Hw Hout]
  · isplitr; · iexact HR
    isplitr; · iexact Hlev
    isplitl [FL5]; · iexact FL5
    isplitl [VL5]; · iexact VL5
    isplitl [HO]; · iexact HO
    isplitl [Hw]; · iexact Hw
    iexact Hout
  iintro ⟨NL5, SL5, PL5, HO, Hw, Hout⟩
  -- every cell closes
  imod (close_all m K c) $$ [Hat NR0 NL0 NR1 NL1 NR2 NL2 NR3 NL3 NR4 NL4 NR5 NL5] with Hz
  · isplitr; · iexact HR
    iapply (collect c)
    isplitl [Hat]; · iexact Hat
    rw [bigSep_order]
    iframe NR0 NL0 NR1 NL1 NR2 NL2 NR3 NL3 NR4 NL4 NR5 NL5
  rw [wp_ret]
  imodintro
  iapply Hk
  unfold bodyEnd
  isplitl [SR0 SL0 Hx]
  · rw [x_shares m c]; iframe SR0 SL0 Hx
  isplitl [Hw]; · iexact Hw
  isplitl [Hout]; · iexists f; iexact Hout
  isplitl [SR1 GR0 SR2 SR3 SR4 SR5 GR1 PR2 PR3 PR4 PR5]
  · iapply (rejoin m c false)
    isplitl [SR1 GR0]
    · isplitl [SR1]; · iexact SR1
      iexact GR0
    isplitl [SR2 SR3 SR4 SR5 GR1]
    · isplitr [GR1]
      · iframe SR2 SR3 SR4 SR5
      iexact GR1
    iframe PR2 PR3 PR4 PR5
  isplitl [SL1 GL0 SL2 SL3 SL4 SL5 GL1 PL2 PL3 PL4 PL5]
  · iapply (rejoin m c true)
    isplitl [SL1 GL0]
    · isplitl [SL1]; · iexact SL1
      iexact GL0
    isplitl [SL2 SL3 SL4 SL5 GL1]
    · isplitr [GL1]
      · iframe SL2 SL3 SL4 SL5
      iexact GL1
    iframe PL2 PL3 PL4 PL5
  isplitl [HO]; · iexact HO
  iexact Hz

end Cert.KernelIdeal.Ring

end
-- ==== Proof.KernelIdeal.Deal.lean ====
/-
What the launch deals: every cell's invariant shared by all devices, to each device its positions, the duties it pays,
the credits of its waits.
-/
module

public import proofs.«01_k».proof.Proof.KernelIdeal.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tokens -/

/-- The duties of one device's cells: the barrier's two and one at each end of each transfer. -/
abbrev TI : Type := Bool ⊕ (Xf × Bool)

/-- The cell a duty is of. -/
def tokCell : TI → CI
  | .inl _ => .inl ()
  | .inr p => .inr p
/-- The duty's name at its cell. -/
def tokName : TI → Bool
  | .inl d => d
  | .inr _ => false

/-- A device's duty as a token. -/
def tokOf (t : Dev nD × TI) : GSem nD τ sig × ℕ × Bool := (kcell (t.1, tokCell t.2), 0, tokName t.2)

/-- Different duties are different tokens. -/
theorem tokOf_injective : Function.Injective tokOf := by
  rintro ⟨c, t⟩ ⟨c', t'⟩ h
  have hc : (c, tokCell t) = (c', tokCell t') := kcell_injective (congrArg Prod.fst h)
  have hn : tokName t = tokName t' := congrArg (fun y : GSem nD τ sig × ℕ × Bool => y.2.2) h
  have h1 : c = c' := congrArg Prod.fst hc
  have h2 : tokCell t = tokCell t' := congrArg Prod.snd hc
  have h3 : t = t' := by
    rcases t with d | p <;> rcases t' with d' | p'
    · exact congrArg Sum.inl hn
    · exact absurd h2 (fun h => by cases h)
    · exact absurd h2 (fun h => by cases h)
    · exact congrArg Sum.inr (Sum.inr.inj h2)
  rw [h1, h3]

/-- The cells of all devices. -/
def ringCells : Finset (GSem nD τ sig) := Finset.univ.map ⟨kcell, kcell_injective⟩
/-- The tokens of all devices. -/
def ringToks : Finset (GSem nD τ sig × ℕ × Bool) := Finset.univ.map ⟨tokOf, tokOf_injective⟩

/-- The ghost state the launch starts from: the pipeline's and the rounds'. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Bool => dutyTok ER (barCell c) 0 d)
    ∗ (bigSep Finset.univ fun x : Xf => dutyTok ER (xCell c x false) 0 false) ∗ bigSep Finset.univ fun x : Xf => dutyTok ER (xCell c x true) 0 false)

/-- The duty tokens device `c` pays with: one at each neighbour's barrier, its own sends', its neighbours' receives'. -/
def payToks (c : Dev nD) : sProp 𝕄 :=
  iprop((bigSep Finset.univ fun d : Bool => dutyTok ER (barCell (tgt (!d) c)) 0 d)
    ∗ (bigSep Finset.univ fun x : Xf => dutyTok ER (xCell c x false) 0 false)
    ∗ bigSep Finset.univ fun x : Xf => dutyTok ER (xCell (tgt x.1 c) x true) 0 false)

omit [FloatOps F] in
/-- A conjunction over the two directions, written out. -/
theorem over_bool (Φ : Bool → sProp 𝕄) : bigSep Finset.univ Φ = iprop(Φ false ∗ Φ true) :=
  bigSep_univ_eq_bigSepL [false, true] (by decide) (by decide) Φ

omit [FloatOps F] in
/-- A conjunction over the ends of the transfers, by the end. -/
theorem over_ends (Φ : Xf × Bool → sProp 𝕄) : bigSep Finset.univ Φ
    = iprop((bigSep Finset.univ fun x : Xf => Φ (x, false)) ∗ bigSep Finset.univ fun x : Xf => Φ (x, true)) := by
  rw [bigSep_univ_prod, bigSep_congr (s := Finset.univ) (fun (x : Xf) _ => over_bool fun b => Φ (x, b)), bigSep_sep']

omit [FloatOps F] in
/-- A conjunction over a device's cells: the barrier's, the sends', the receives'. -/
theorem over_cells (Φ : CI → sProp 𝕄) : bigSep Finset.univ Φ
    = iprop(Φ (.inl ()) ∗ (bigSep Finset.univ fun x : Xf => Φ (.inr (x, false))) ∗ bigSep Finset.univ fun x : Xf => Φ (.inr (x, true))) := by
  rw [bigSep_univ_sum, over_ends, bigSep_univ_eq_bigSepL [()] (by decide) (by decide)]; rfl

omit [FloatOps F] in
/-- Two conjunctions may be taken in either order. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]; rfl

omit [FloatOps F] in
/-- The tokens go from the cells' owners to the devices that pay: each family is permuted by its direction. -/
theorem toks_around : (bigSep Finset.univ fun c : Dev nD => (toks c : sProp 𝕄)) = bigSep Finset.univ fun c : Dev nD => payToks c := by
  unfold toks payToks
  rw [bigSep_sep', bigSep_sep', bigSep_sep', bigSep_sep', bigSep_swap (A := Dev nD), bigSep_swap (A := Dev nD), bigSep_swap (A := Dev nD),
    bigSep_swap (A := Dev nD), bigSep_swap (A := Dev nD)]
  refine congrArg₂ _ (bigSep_congr fun d _ => ?_) (congrArg₂ _ rfl (bigSep_congr fun x _ => ?_))
  · exact bigSep_univ_equiv (rot (!d)) (fun c : Dev nD => (dutyTok ER (barCell c) 0 d : sProp 𝕄))
  · exact bigSep_univ_equiv (rot x.1) (fun c : Dev nD => (dutyTok ER (xCell c x true) 0 false : sProp 𝕄))

/-! ## From the launch's element to the shared records -/

/-- What the launch's element gives device `c`. -/
def G (c : Dev nD) : sProp 𝕄 :=
  iprop((bigSep Finset.univ fun k : CI => roundState ER (Rd m) (kcell (c, k)) 0)
    ∗ (bigSep Finset.univ fun k : CI => reached ER (kcell (c, k)) 0)
    ∗ (bigSep Finset.univ fun k : CI => atPos ER (kcell (c, k)) 0 ∅ 0) ∗ toks c)

/-- What stays with device `c` alone: its positions and the tokens it pays with. -/
def linear (c : Dev nD) : sProp 𝕄 :=
  iprop((bigSep Finset.univ fun k : CI => atPos ER (kcell (c, k)) 0 ∅ 0) ∗ payToks c)

/-- What device `c` enters the region with. -/
def G' (c : Dev nD) : sProp 𝕄 := iprop(∃ K, records m K ∗ linear c)

/-- The shared records and a device's own share are what it enters the region with. -/
theorem share_intro (K : Dev nD × CI → ℕ) (c : Dev nD) : iprop(records m K ∗ linear c) ⊢ G' m c := by
  unfold G'
  iintro ⟨H, Hl⟩
  iexists K
  isplitl [H] <;> iassumption

/-- The rounds' starting ghost state gives every device the ghost state of its cells and its tokens. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks; rw [bigSep_univ_sum, over_ends]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat]; · iexact Hat
  iexact Htok

omit [FloatOps F] in
/-- The runtime's barrier semaphore is the launch's one semaphore outside the kernel. -/
theorem outer_sem (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores and the barrier's are the protocol's cells. -/
theorem sems_eq (c : Dev nD) : iprop(Pipeline.ownSems0 osem c ∗ unscopedSems0 c) = (bigSep Finset.univ fun k : CI => semVal (kcell (c, k)) 0 : sProp 𝕄) := by
  rw [over_cells, outer_sem, Pipeline.ownSems0, over_ends]
  have swap (P Q : sProp (MT nD τ sig Unit (Elt F) ℕ UU ℕ)) : iprop(P ∗ Q) ⊢ iprop(Q ∗ P) := by
    iintro ⟨HP, HQ⟩
    isplitl [HQ] <;> iassumption
  exact BI.Entails.antisymm (swap _ _) (swap _ _)

/-- A device's cells, each put under its invariant. -/
theorem core_alloc (c : Dev nD) :
    iprop(Pipeline.ownSems0 osem c ∗ unscopedSems0 c ∗ G m c)
      ⊢ (|={Set.univ}=> iprop((bigSep Finset.univ fun k : CI => iprop(∃ κ : ℕ, cellInv ER (Rd m) κ (kcell (c, k))))
          ∗ (bigSep Finset.univ fun k : CI => reached ER (kcell (c, k)) 0)
          ∗ (bigSep Finset.univ fun k : CI => atPos ER (kcell (c, k)) 0 ∅ 0) ∗ toks c) : sProp 𝕄) := by
  have hc : iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hrest⟩
  ihave Hv := (Entails.of_eq (sems_eq (F := F) c)) $$ [Hos Hus]
  · isplitl [Hos] <;> iassumption
  imod hc $$ [Hv Hst] with Hinv
  · isplitl [Hv] <;> iassumption
  imodintro
  isplitl [Hinv]; · iexact Hinv
  iexact Hrest

/-- The invariants and reached rounds of all cells, taken together, go to every device. -/
theorem regroup :
    (bigSep Finset.univ fun c : Dev nD => iprop((bigSep Finset.univ fun k : CI => iprop(∃ κ : ℕ, cellInv ER (Rd m) κ (kcell (c, k))))
          ∗ (bigSep Finset.univ fun k : CI => reached ER (kcell (c, k)) 0)
          ∗ (bigSep Finset.univ fun k : CI => atPos ER (kcell (c, k)) 0 ∅ 0) ∗ toks c) : sProp 𝕄)
      ⊢ bigSep Finset.univ (G' m) := by
  simp only [bigSep_sep']
  rw [← bigSep_univ_prod (fun ck : Dev nD × CI => iprop(∃ κ : ℕ, cellInv ER (Rd m) κ (kcell ck))),
    ← bigSep_univ_prod (fun ck : Dev nD × CI => (reached ER (kcell ck) 0 : sProp 𝕄)), toks_around, ← bigSep_sep']
  iintro ⟨HI, #HR, Hlin⟩
  ihave HK := (BI.bigSep_exists_pi Finset.univ (fun (ck : Dev nD × CI) (κ : ℕ) => (cellInv ER (Rd m) κ (kcell ck) : sProp 𝕄))) $$ HI
  icases HK with ⟨%K, #HI⟩
  have hK : iprop(records m K ∗ bigSep Finset.univ fun c : Dev nD => linear (F := F) c) ⊢ bigSep Finset.univ (G' m) :=
    (sep_mono_left (BI.bigSep_of_persistent Finset.univ (records m K))).trans (by
      rw [← bigSep_sep']
      exact bigSep_mono fun c _ => share_intro m K c)
  iapply hK
  isplitr
  · unfold records; isplitr
    · iexact HI
    · iexact HR
  · unfold linear; iexact Hlin

/-- The launch's one step over all devices at once. -/
theorem glob : (bigSep Finset.univ fun c => iprop(Pipeline.ownSems0 osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the waits -/

omit [FloatOps F] in
/-- What the other devices owe device `c`'s receive cells is the credit of its receives. -/
theorem cred_recvs (c : Dev nD) (l : List Xf) :
    (Pipeline.launchCred (fun d => Ox d l) c : sProp 𝕄) ⊢ bigSepL l fun x => cred (tallyAt (xCell c x true) () (amt x.2)) := by
  induction l with
  | nil => rw [show (fun d => Ox d []) = fun _ : Dev nD => (0 : CellTallies nD τ sig Unit) from rfl, Pipeline.launchCred_zero]; exact BI.Entails.refl _
  | cons x l ih =>
    rw [show (fun d => Ox d (x :: l)) = fun d => tallyAt (xCell (tgt x.1 d) x true) () (amt x.2) + Ox d l from
      funext fun d => (Ox_cons d x l).trans (add_comm _ _), Pipeline.launchCred_add]
    rw [bigSepL_cons]
    exact BI.sep_mono (Pipeline.launchCred_tallyAt (SemLoc.dma (xs x true)) (tgt x.1) (tgt (!x.1)) (tgt_forth x.1) (tgt_back x.1) () (amt x.2) c) ih

omit [FloatOps F] in
/-- One neighbour's unit at device `c`'s barrier. -/
theorem cred_bar (d : Bool) (c : Dev nD) :
    (Pipeline.launchCred (fun e => (tallyAt (barCell (tgt d e)) () 1 : CellTallies nD τ sig Unit)) c : sProp 𝕄) ⊢ cred (tallyAt (barCell c) () 1) :=
  Pipeline.launchCred_tallyAt (SemLoc.reg barS) (tgt d) (tgt (!d)) (tgt_forth d) (tgt_back d) () 1 c

omit [FloatOps F] in
/-- The launch's credit of device `c` is what its waits spend. -/
theorem creds (c : Dev nD) : (Pipeline.launchCred O₀ c : sProp 𝕄)
    ⊢ iprop(cred (tallyAt (barCell c) () 2) ∗ bigSep Finset.univ fun x : Xf => cred (tallyAt (xCell c x true) () (amt x.2))) := by
  rw [show (O₀ : Dev nD → CellTallies nD τ sig Unit) = fun d => (fun d => Ox d order + tallyAt (barCell (tgt false d)) () 1) d + tallyAt (barCell (tgt true d)) () 1 from rfl,
    Pipeline.launchCred_add, Pipeline.launchCred_add, bigSep_univ_eq_bigSepL order (by decide) (by decide),
    show (tallyAt (barCell c) () 2 : CellTallies nD τ sig Unit) = tallyAt (barCell c) () 1 + tallyAt (barCell c) () 1 from (tallyAt_add _ _ 1 1).symm]
  iintro ⟨⟨HX, HB⟩, HB'⟩
  ihave HX := (cred_recvs (F := F) c order) $$ HX
  ihave HB := (cred_bar (F := F) false c) $$ HB
  ihave HB' := (cred_bar (F := F) true c) $$ HB'
  isplitl [HB HB']
  · iapply (cred_add _ _).2
    isplitl [HB]; · iexact HB
    iexact HB'
  iexact HX

omit [FloatOps F] in
/-- Positions, tokens and credits make up what the body starts from. -/
theorem ready_intro (c : Dev nD) :
    iprop(linear c ∗ cred (tallyAt (barCell c) () 2) ∗ bigSep Finset.univ fun x : Xf => cred (tallyAt (xCell c x true) () (amt x.2))) ⊢ (ready c : sProp 𝕄) := by
  unfold linear payToks ready rdy fly
  rw [over_cells, over_bool]
  simp only [bigSep_sep']
  iintro ⟨⟨⟨Hb, Hs, Hv⟩, ⟨T1, T2⟩, TS, TV⟩, Hc, Hcr⟩
  isplitl [T1 T2]
  · isplitl [T1]; · iexact T1
    iexact T2
  isplitl [Hb]; · iexact Hb
  isplitl [Hc]; · iexact Hc
  isplitl [TS]; · iexact TS
  isplitl [TV]; · iexact TV
  isplitl [Hs]; · iexact Hs
  isplitl [Hv] <;> iassumption

end Cert.KernelIdeal.Ring

end
-- ==== Proof.KernelIdeal.Launch.lean ====
/-
The kernel launched: what the pipeline's windows hold, the body put under the pipeline, and the run of the four devices.
-/
module

public import proofs.«01_k».proof.Proof.KernelIdeal.Deal
public import proofs.«01_k».proof.Proof.KernelIdeal.Cover
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The pipeline's data -/

/-- Before the body: the shared records, the device's own positions and tokens, its credits, and the two landing buffers. -/
def Φ₀ (c : Dev nD) : sProp 𝕄 :=
  iprop((∃ K, records m K ∗ ready c) ∗ levAts L lv
    ∗ (∃ f, (cM false).view.loc (c : Thread nD τ) ↦{fullShare} f) ∗ ∃ f, (cM true).view.loc (c : Thread nD τ) ↦{fullShare} f)

/-- After the body: the two landing buffers filled and every counter of the protocol at zero. -/
def Φ₁ (c : Dev nD) : sProp 𝕄 :=
  iprop(((cM false).view.loc (c : Thread nD τ) ↦{fullShare} cont m false c) ∗ ((cM true).view.loc (c : Thread nD τ) ↦{fullShare} cont m true c)
    ∗ bigSep Finset.univ fun k : CI => semVal (kcell (c, k)) 0)

/-- What the windows hold on device `c`: `x` and `w_mat` as given, the result as the body stores it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body under the pipeline -/

omit [FloatOps F] in
/-- Owning a whole buffer's contents is holding its points-to at them. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the pipeline hands the body. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the pipeline takes back. -/
def bodyPost (c : Dev nD) : sProp 𝕄 :=
  iprop(Φ₁ m c ∗ (dats m ρ 0 c).owesAt () t0_0.succ ∗ stg c cc0_stg0_0 (xstg m c) ∗ stg c cc0_stg1_0 (wstg m c) ∗ stg c cc0_stg2_0 (outAt m c))

/-- The first window's staging buffer holds the device's block of `x` before the body. -/
theorem before_x (c : Dev nD) (d) : (dats m ρ 0 c).before (0 : Fin 3) t0_0 d = xstg m c := by
  unfold Dat.before; rw [if_pos (fetch0_0 t0_0)]; rfl
/-- The second window's staging buffer holds the device's block of `w_mat` before the body. -/
theorem before_w (c : Dev nD) (d) : (dats m ρ 0 c).before (1 : Fin 3) t0_0 d = wstg m c := by
  unfold Dat.before; rw [if_pos (fetch0_1 t0_0)]; rfl

/-- The body's end is what the pipeline takes back. -/
theorem end_post (c : Dev nD) : bodyEnd m c ⊢ bodyPost m ρ c := by
  unfold bodyEnd bodyPost Φ₁ Dat.owesAt Pipeline.owesWithin ow oPts
  iintro ⟨Hx, Hw, ⟨%f, Hout⟩, HR, HL, ⟨%W, HO⟩, Hz⟩
  isplitl [HR HL Hz]
  · isplitl [HR]; · iexact HR
    isplitl [HL]; · iexact HL
    iexact Hz
  isplitl [HO]
  · iexists W
    isplitr; · ipureintro; exact fun _ _ => Or.inl trivial
    iexact HO
  isplitl [Hx]
  · iexists _
    isplitr; · ipureintro; rfl
    iexact Hx
  isplitl [Hw]
  · iexists _
    isplitr; · ipureintro; rfl
    iexact Hw
  iexists _
  isplitr; · ipureintro; exact stored_pieces m c f
  iexact Hout

attribute [local irreducible] outAt xstg wstg cont in
set_option maxRecDepth 4000 in
/-- The body at the one grid point, as the pipeline asks for it. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3 cc0_scratch4 cc0_scratch5
      cc0_scratch6 cc0_scratch7 cc0_scratch8 cc0_scratch9) (fun _ => bodyPost m ρ c)
  unfold bodyPre Φ₀ Dat.owesAt Pipeline.owesWithin
  iintro ⟨⟨⟨%K, HR, Hrdy⟩, Hlev, HcR, HcL⟩, ⟨%W, -, HO⟩, ⟨%d0, %g0, %h0, Hx⟩, ⟨%d1, %g1, %h1, Hw⟩, ⟨%d2, %g2, -, Hout⟩⟩
  rw [before_x] at h0
  rw [before_w] at h1
  subst h0; subst h1
  iapply (body_run m K c g2 (fun _ => bodyPost m ρ c)) $$ [HR Hlev Hrdy HcR HcL HO Hx Hw Hout]
  · isplitl [HR]; · iexact HR
    isplitl [Hlev]; · iexact Hlev
    isplitl [Hrdy]; · iexact Hrdy
    isplitl [HcR]; · iexact HcR
    isplitl [HcL]; · iexact HcL
    isplitl [HO]; · unfold ow; iexists W; iexact HO
    isplitl [Hx]; · iexact Hx
    isplitl [Hw]; · iexact Hw
    iexact Hout
  iintro H
  iapply (end_post m ρ c); iexact H

/-! ## The launch's sides -/

/-- Every window's array is held whole. -/
theorem share_eq (c : Dev nD) (w : Fin cfg0.W) : (dats m ρ 0 c).share w = fullShare := by unfold Dat.share; split <;> rfl

/-- What a device brings into the region beside its buffers. -/
def start (c : Dev nD) : sProp 𝕄 := iprop((∃ K, records m K ∗ ready c) ∗ levAts L lv)

/-- What the launch gives a device makes up what it brings into the region. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, ⟨%K, HR, Hlin⟩⟩
  ihave Hc := (creds (F := F) c) $$ Hcr
  ihave Hrdy := (ready_intro (F := F) c) $$ [Hlin Hc]
  · isplitl [Hlin] <;> iassumption
  imodintro
  isplitl
  · isplitl [HR Hrdy]
    · iexists K
      isplitl [HR] <;> iassumption
    iexact Hlev
  iempintro

/-- With the landing buffers that is the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨Hs, Hlev⟩, -, ⟨HcR, HcL⟩⟩
  isplitl [Hs]; · iexact Hs
  isplitl [Hlev]; · iexact Hlev
  isplitl [HcR]; · iexact HcR
  iexact HcL

/-- The state after the body gives back the landing buffers and every counter at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  rw [← sems_eq]
  iintro ⟨HR, HL, Hos, Hus⟩
  isplitl [Hus]; · iexact Hus
  isplitl [Hos]; · iexact Hos
  isplitl [HR]
  · iexists (cont m false c); iexact HR
  · iexists (cont m true c); iexact HL

/-- The pipeline's own waits may be made: its semaphores lie at the lowest level. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds when the kernel is done. -/
def finalA (c : Dev nD) (w : Fin cfg0.W) : Buf (Elt F) ((cfg0.win w).arr.view.loc (c : Thread nD τ)) := (dats m ρ 0 c).arrAt w cfg0.N

/-- Every window's array holds its computed contents, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, whatever the float values, every fair execution of the four devices ends, each
    window's array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument's array holds what it held. -/
theorem finalA_x (c : Dev nD) : finalA m ρ c (0 : Fin 3) = m ((c : Thread nD τ).loc main_arg0) :=
  (dats (F := F) m ρ 0 c).arrAt_in (0 : Fin 3) rfl _
/-- The second argument's array holds what it held. -/
theorem finalA_w (c : Dev nD) : finalA m ρ c (1 : Fin 3) = m ((c : Thread nD τ).loc main_arg1) :=
  (dats (F := F) m ρ 0 c).arrAt_in (1 : Fin 3) rfl _

end Cert.KernelIdeal.Ring

end
-- ==== Proof.KernelIdeal.Final.lean ====
/-
What the arrays hold when the kernel is done, and that the staged blocks are the arguments.
-/
module

public import proofs.«01_k».proof.Proof.KernelIdeal.Launch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

attribute [local irreducible] outAt in
/-- The result's array holds what the body left in the result's staging buffer. -/
theorem finalA_out (c : Dev nD) : finalA m ρ c (2 : Fin 3) = outAt m c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    rw [show (dats m ρ 0 c).flushed (2 : Fin 3) (0 : Fin 1) = outAt m c from rfl]
    exact View.read_write_univ _ _
  rw [hr] at ho
  exact ho

omit [FloatOps F] in
/-- A device's staged block of `x` is its argument. -/
theorem xstg_eq (c : Dev nD) : xstg m c = m ((c : Thread nD τ).loc main_arg0) :=
  Memref.read_access_unit_zero (Elt F) main_arg0 (funext fun a => by fin_cases a <;> decide : (fun a => (win0_0.index (0 : Fin 1)) a * main_arg0.ty.shape.size a) = fun _ => 0)
    (fun a => by fin_cases a <;> decide) _
omit [FloatOps F] in
/-- A device's staged block of `w_mat` is its argument. -/
theorem wstg_eq (c : Dev nD) : wstg m c = m ((c : Thread nD τ).loc main_arg1) :=
  Memref.read_access_unit_zero (Elt F) main_arg1 (funext fun a => by fin_cases a <;> decide : (fun a => (win0_1.index (0 : Fin 1)) a * main_arg1.ty.shape.size a) = fun _ => 0)
    (fun a => by fin_cases a <;> decide) _

end Cert.KernelIdeal.Ring

end
-- ==== Proof.ReferenceIdeal.Product.lean ====
/-
What the reference computes, over the extended reals: at `(i, j)` the sum over `k` of the products of `x` at `(i, k)` and
`w_mat` at `(k, j)`, or zero where that is less. Its two format changes are the identity there.
-/
module

public import proofs.«01_k».proof.Proof.Gen.ReferenceIdeal.Run
public import Idealize.ShloMosaic.Lib.Pointwise

@[expose] public section

noncomputable section

namespace Cert.ReferenceIdeal.Product

open Cert.ReferenceIdeal Cert.ReferenceIdeal.Gen Idealize.ShloMosaic

/-- The reference's result, of its two arguments. -/
def result (X : Vec Ideal S4096x4096 .bf16) (W : Vec Ideal S4096x2048 .bf16) : Vec Ideal S4096x2048 .f32 :=
  maximumf (F := Ideal) (s := S4096x2048) (φ := .f32) (extf .f32 (truncf .bf16 (Host.dotGeneral (φ₁ := .bf16) (φ₂ := .bf16) dot_S4096x4096_S4096x2048_S4096x2048_1_0_0_1_n_n none X W) bitsLt_bf16_f32) bitsLt_bf16_f32)
    (broadcastInDim S4096x2048 ![] bcast_S_S4096x2048 (constant S_ .f32 0x00000000#32))

/-- The result at an index. -/
theorem result_apply (X : Vec Ideal S4096x4096 .bf16) (W : Vec Ideal S4096x2048 .bf16) (y : S4096x2048.Idx) :
    result X W y = max (∑ k : Fin 4096, X (ix2 (y 0) k) * W (ix2 k (y 1))) 0 := by
  pointwise [result]

end Cert.ReferenceIdeal.Product

end
-- ==== Proof.KernelIdeal.Whole.lean ====
/-
The equation: where the devices hold their blocks of the reference's arguments, each ends with its block of the reference's result.
-/
module

public import proofs.«01_k».proof.Proof.KernelIdeal.Value
public import proofs.«01_k».proof.Proof.KernelIdeal.Final
public import proofs.«01_k».proof.Proof.ReferenceIdeal.Product
public import Idealize.ShloMosaic.Lib.Layout

@[expose] public section

noncomputable section

namespace Cert.KernelIdeal.Ring

open Cert.KernelIdeal Cert.KernelIdeal.Gen
open Idealize.ShloMosaic
open Idealize.ShloMosaic.TcCoe

variable (m : (ℓ : Loc nD τ sig) → Buf (Elt Ideal) ℓ)
variable (X : Vec Ideal Cert.ReferenceIdeal.S4096x4096 .bf16) (W : Vec Ideal Cert.ReferenceIdeal.S4096x2048 .bf16)

/-- Where the devices hold the blocks of `X`, cut along its rows, the whole of `x` is `X`. -/
theorem xAll_whole (hx : ∀ c : Dev nD, m ((c : Thread nD τ).loc main_arg0) = Layout.block ⟨2, ![1024, 4096]⟩ ⟨2, ![4096, 4096]⟩ 0 4 c X)
    (i : SX.Idx) : xAll m i = X i := by
  unfold xAll
  rw [xstg_eq, hx, Layout.block_apply]
  congr 1
  funext a; fin_cases a
  · exact Fin.ext (by show (i 0).val / 1024 * 1024 + (i 0).val % 1024 = (i 0).val; omega)
  · rfl

/-- A device that holds its block of `W`, cut along its columns, has at `(k, j)` the element of `W` its block's place says. -/
theorem wstg_whole (c : Dev nD) (hw : m ((c : Thread nD τ).loc main_arg1) = Layout.block ⟨2, ![4096, 512]⟩ ⟨2, ![4096, 2048]⟩ 1 4 c W)
    (k : Fin 4096) (j : Fin 512) (j' : Fin 2048) (hj : j'.val = c.val * 512 + j.val) : wstg m c (ix2 k j) = W (ix2 k j') := by
  rw [wstg_eq, hw, Layout.block_apply]
  congr 1
  funext a; fin_cases a
  · rfl
  · exact Fin.ext hj.symm

/-- A device's result is its block, cut along the columns, of the reference's. -/
theorem outAt_block (hx : ∀ c : Dev nD, m ((c : Thread nD τ).loc main_arg0) = Layout.block ⟨2, ![1024, 4096]⟩ ⟨2, ![4096, 4096]⟩ 0 4 c X)
    (c : Dev nD) (hw : m ((c : Thread nD τ).loc main_arg1) = Layout.block ⟨2, ![4096, 512]⟩ ⟨2, ![4096, 2048]⟩ 1 4 c W) :
    outAt m c = Layout.block ⟨2, ![4096, 512]⟩ ⟨2, ![4096, 2048]⟩ 1 4 c (Cert.ReferenceIdeal.Product.result X W) := by
  funext y
  rw [outAt_eq, Layout.block_apply, Cert.ReferenceIdeal.Product.result_apply]
  unfold prod
  have hs : ∀ k : Fin 4096, xAll m (ix2 (y 0) k) * wstg m c (ix2 k (y 1))
      = X (ix2 (y 0) k) * W (ix2 k ⟨c.val * 512 + (y 1).val, by have h := (y 1).isLt; have hc : c.val < 4 := c.isLt; change (y 1).val < 512 at h; omega⟩) :=
    fun k => by rw [xAll_whole m X hx, wstg_whole m W c hw k (y 1) ⟨c.val * 512 + (y 1).val, _⟩ rfl]
  rw [Finset.sum_congr rfl fun k _ => hs k]
  rfl

end Cert.KernelIdeal.Ring

end
-- ==== Proof.lean ====
/-
The proof of `Cert.Claim`: the kernel's frame for the hardware's floats and over the extended reals, the reference's frame, and
that over the extended reals each device of the kernel ends with its block of the reference's result. The run of the kernel is
`run_main` of the modules Launch, stated for any floats; the equation is `outAt_block` of the module Whole.
-/
module

public import proofs.«01_k».proof.Defs
public import proofs.«01_k».proof.Proof.Kernel.Launch
public import proofs.«01_k».proof.Proof.KernelIdeal.Whole

@[expose] public section

noncomputable section

namespace Cert.Proof

open Idealize.ShloMosaic Idealize.SL.Sem

/-- The kernel runs to its end, leaves its arguments as they were and every counter at zero: for the hardware's floats. -/
theorem frame_kernel : Cert.quiescent_Kernel (hKernel := Cert.Kernel.Gen.facts) := fun m ρ _ =>
  (θ_run Cert.Kernel.defs _ _).mono
    (fun r h => ⟨fun c => ⟨(h.1 c 0).trans (Cert.Kernel.Ring.finalA_x m ρ c), (h.1 c 1).trans (Cert.Kernel.Ring.finalA_w m ρ c)⟩, h.2⟩)
    (Cert.Kernel.Ring.run_main (F := Bits) m ρ)

/-- The same over the extended reals. -/
theorem frame_kernelIdeal : Cert.quiescent_KernelIdeal (hKernelIdeal := Cert.KernelIdeal.Gen.facts) := fun m ρ _ =>
  (θ_run Cert.KernelIdeal.defs _ _).mono
    (fun r h => ⟨fun c => ⟨(h.1 c 0).trans (Cert.KernelIdeal.Ring.finalA_x m ρ c), (h.1 c 1).trans (Cert.KernelIdeal.Ring.finalA_w m ρ c)⟩, h.2⟩)
    (Cert.KernelIdeal.Ring.run_main (F := Ideal) m ρ)

/-- The reference runs to its end and leaves its arguments as they were; it has no counters. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals, from blocks of the same arguments, each device of the kernel ends with its block of the reference's
    result. -/
theorem algebraic : Cert.algebraic_KernelIdeal_ReferenceIdeal (hKernelIdeal := Cert.KernelIdeal.Gen.facts) (hReferenceIdeal := Cert.ReferenceIdeal.Gen.facts) :=
  fun m ρ m' ρ' _ hargs =>
    ⟨Cert.ReferenceIdeal.Product.result _ _,
      (θ_run Cert.KernelIdeal.defs _ _).mono
        (fun r h c => ⟨(h.1 c 2).trans ((Cert.KernelIdeal.Ring.finalA_out m ρ c).trans
            (Cert.KernelIdeal.Ring.outAt_block m _ _ (fun c => (hargs c).1) c (hargs c).2)),
          (h.1 c 0).trans (Cert.KernelIdeal.Ring.finalA_x m ρ c), (h.1 c 1).trans (Cert.KernelIdeal.Ring.finalA_w m ρ c)⟩)
        (Cert.KernelIdeal.Ring.run_main (F := Ideal) m ρ),
      (θ_run Cert.ReferenceIdeal.defs _ _).mono (fun r h => h 0) (Cert.ReferenceIdeal.Value.run (F := Ideal) m' ρ')⟩

/-- The claims together. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
